-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pack.Statement Cert.KernelIdeal.S1024x2048
  ∧ IdealRules.bf16_pack.Statement Cert.KernelIdeal.S1024x576

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x100 : Shape := ⟨2, ![16384, 100]⟩
abbrev S100x16x64 : Shape := ⟨3, ![100, 16, 64]⟩
abbrev S64 : Shape := ⟨1, ![64]⟩
abbrev S64x16x64 : Shape := ⟨3, ![64, 16, 64]⟩
abbrev S64x1 : Shape := ⟨2, ![64, 1]⟩
abbrev S1 : Shape := ⟨1, ![1]⟩
abbrev S_ : Shape := ⟨0, ![]⟩
abbrev S64x9x64 : Shape := ⟨3, ![64, 9, 64]⟩

class Facts : Prop where
  bcast_S_S16384x100 : S_.BroadcastsInDim S16384x100 (![] : Fin 0 → Fin S16384x100.rank)
  bcast_S_S100x16x64 : S_.BroadcastsInDim S100x16x64 (![] : Fin 0 → Fin S100x16x64.rank)
  bcast_S_S64 : S_.BroadcastsInDim S64 (![] : Fin 0 → Fin S64.rank)
  slices_S64x16x64_S64x9x64_0_7_0 : S64x16x64.Slices ![0, 7, 0] S64x9x64
  bcast_S_S64x9x64 : S_.BroadcastsInDim S64x9x64 (![] : Fin 0 → Fin S64x9x64.rank)

variable [Facts]

def fn {F : FTy → Type} [FloatOps F] (main_arg0 : FVec F S16384x100 .f32) (main_arg1 : FVec F S100x16x64 .f32) (main_arg2 : FVec F S64 .f32) (main_arg3 : FVec F S64x16x64 .f32) (main_arg4 : FVec F S64 .f32) (main_arg5 : FVec F S64x1 .f32) (main_arg6 : FVec F S1 .f32) : IVec S16384x100 1 × IVec S100x16x64 1 × IVec S64 1 × IVec S64x9x64 1 :=
  let main_v0 : FVec F S16384x100 .f32 := Host.absf main_arg0
  let main_cst : FVec F S_ .f32 := constant S_ .f32 0x7F800000#32
  let main_v1 : FVec F S16384x100 .f32 := broadcastInDim S16384x100 ![] bcast_S_S16384x100 main_cst
  let main_v2 : IVec S16384x100 1 := cmpf .olt main_v0 main_v1
  let main_v3 : FVec F S100x16x64 .f32 := Host.absf main_arg1
  let main_cst_0 : FVec F S_ .f32 := constant S_ .f32 0x7F800000#32
  let main_v4 : FVec F S100x16x64 .f32 := broadcastInDim S100x16x64 ![] bcast_S_S100x16x64 main_cst_0
  let main_v5 : IVec S100x16x64 1 := cmpf .olt main_v3 main_v4
  let main_cst_1 : FVec F S_ .f32 := constant S_ .f32 0x7F800000#32
  let main_v6 : FVec F S64 .f32 := broadcastInDim S64 ![] bcast_S_S64 main_cst_1
  let main_v7 : IVec S64 1 := cmpf .olt main_arg2 main_v6
  let main_v8 : FVec F S64x9x64 .f32 := (extractStridedSlice S64x9x64 ![0, 7, 0] · slices_S64x16x64_S64x9x64_0_7_0) main_arg3
  let main_cst_2 : FVec F S_ .f32 := constant S_ .f32 0x7F800000#32
  let main_v9 : FVec F S64x9x64 .f32 := broadcastInDim S64x9x64 ![] bcast_S_S64x9x64 main_cst_2
  let main_v10 : IVec S64x9x64 1 := cmpf .olt main_v8 main_v9
  (main_v2, main_v5, main_v7, main_v10)
-- ==== Kernel.lean ====
abbrev S16384x100 : Shape := ⟨2, ![16384, 100]⟩
abbrev S100x16x64 : Shape := ⟨3, ![100, 16, 64]⟩
abbrev S64 : Shape := ⟨1, ![64]⟩
abbrev S64x16x64 : Shape := ⟨3, ![64, 16, 64]⟩
abbrev S64x1 : Shape := ⟨2, ![64, 1]⟩
abbrev S1 : Shape := ⟨1, ![1]⟩
abbrev S16x100x64 : Shape := ⟨3, ![16, 100, 64]⟩
abbrev S_ : Shape := ⟨0, ![]⟩
abbrev S16x128x64 : Shape := ⟨3, ![16, 128, 64]⟩
abbrev S2048x64 : Shape := ⟨2, ![2048, 64]⟩
abbrev S16x64x64 : Shape := ⟨3, ![16, 64, 64]⟩
abbrev S9x64x64 : Shape := ⟨3, ![9, 64, 64]⟩
abbrev S576x64 : Shape := ⟨2, ![576, 64]⟩
abbrev S2048x128 : Shape := ⟨2, ![2048, 128]⟩
abbrev S576x128 : Shape := ⟨2, ![576, 128]⟩
abbrev S1x64 : Shape := ⟨2, ![1, 64]⟩
abbrev S1x1 : Shape := ⟨2, ![1, 1]⟩
abbrev S1x256 : Shape := ⟨2, ![1, 256]⟩
abbrev S16384x1 : Shape := ⟨2, ![16384, 1]⟩
abbrev S1024x100 : Shape := ⟨2, ![1024, 100]⟩
abbrev S1024x1 : Shape := ⟨2, ![1024, 1]⟩
abbrev S1024x28 : Shape := ⟨2, ![1024, 28]⟩
abbrev S1024x128 : Shape := ⟨2, ![1024, 128]⟩
abbrev S1024x2048 : Shape := ⟨2, ![1024, 2048]⟩
abbrev S1024x64 : Shape := ⟨2, ![1024, 64]⟩
abbrev S1024x576 : Shape := ⟨2, ![1024, 576]⟩
abbrev S1024 : Shape := ⟨1, ![1024]⟩

abbrev nBuf : Space → Nat
  | .hbm => 38
  | .vmem => 9
  | .smem => 0
  | _ => 0

abbrev bufTy : (tb : Table) → Fin (tcTables nBuf tb) → BufTy
  | .hbm, ⟨0, _⟩ => ⟨S16384x100, .f32⟩
  | .hbm, ⟨1, _⟩ => ⟨S100x16x64, .f32⟩
  | .hbm, ⟨2, _⟩ => ⟨S64, .f32⟩
  | .hbm, ⟨3, _⟩ => ⟨S64x16x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S16x100x64, .f32⟩
  | .hbm, ⟨8, _⟩ => ⟨S_, .i32⟩
  | .hbm, ⟨9, _⟩ => ⟨S_, .f32⟩
  | .hbm, ⟨10, _⟩ => ⟨S16x128x64, .f32⟩
  | .hbm, ⟨11, _⟩ => ⟨S2048x64, .f32⟩
  | .hbm, ⟨12, _⟩ => ⟨S16x64x64, .f32⟩
  | .hbm, ⟨13, _⟩ => ⟨S9x64x64, .f32⟩
  | .hbm, ⟨14, _⟩ => ⟨S576x64, .f32⟩
  | .hbm, ⟨15, _⟩ => ⟨S2048x64, .bf16⟩
  | .hbm, ⟨16, _⟩ => ⟨S2048x64, .f32⟩
  | .hbm, ⟨17, _⟩ => ⟨S2048x64, .f32⟩
  | .hbm, ⟨18, _⟩ => ⟨S576x64, .bf16⟩
  | .hbm, ⟨19, _⟩ => ⟨S576x64, .f32⟩
  | .hbm, ⟨20, _⟩ => ⟨S576x64, .f32⟩
  | .hbm, ⟨21, _⟩ => ⟨S2048x128, .f32⟩
  | .hbm, ⟨22, _⟩ => ⟨S2048x128, .bf16⟩
  | .hbm, ⟨23, _⟩ => ⟨S576x128, .f32⟩
  | .hbm, ⟨24, _⟩ => ⟨S576x128, .bf16⟩
  | .hbm, ⟨25, _⟩ => ⟨S2048x64, .bf16⟩
  | .hbm, ⟨26, _⟩ => ⟨S576x64, .bf16⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .bf16⟩
  | .hbm, ⟨31, _⟩ => ⟨S1x64, .f32⟩
  | .hbm, ⟨32, _⟩ => ⟨S1x1, .f32⟩
  | .hbm, ⟨33, _⟩ => ⟨S_, .i32⟩
  | .hbm, ⟨34, _⟩ => ⟨S_, .f32⟩
  | .hbm, ⟨35, _⟩ => ⟨S1x64, .f32⟩
  | .hbm, ⟨36, _⟩ => ⟨S1x256, .f32⟩
  | .hbm, ⟨37, _⟩ => ⟨S16384x1, .f32⟩
  | .local _ .vmem, ⟨0, _⟩ => ⟨S1024x100, .f32⟩
  | .local _ .vmem, ⟨1, _⟩ => ⟨S1024x100, .f32⟩
  | .local _ .vmem, ⟨2, _⟩ => ⟨S2048x128, .bf16⟩
  | .local _ .vmem, ⟨3, _⟩ => ⟨S2048x64, .bf16⟩
  | .local _ .vmem, ⟨4, _⟩ => ⟨S576x128, .bf16⟩
  | .local _ .vmem, ⟨5, _⟩ => ⟨S576x64, .bf16⟩
  | .local _ .vmem, ⟨6, _⟩ => ⟨S1x256, .f32⟩
  | .local _ .vmem, ⟨7, _⟩ => ⟨S1024x1, .f32⟩
  | .local _ .vmem, ⟨8, _⟩ => ⟨S1024x1, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_c_0 : Ref sig .tc := ⟨.hbm, 33, rfl⟩
abbrev main_call0_call1_v0 : Ref sig .tc := ⟨.hbm, 34, rfl⟩
abbrev main_call0_v24 : Ref sig .tc := ⟨.hbm, 35, rfl⟩
abbrev main_call0_v25 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S576x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S16384x100 : Shape := ⟨2, ![16384, 100]⟩
abbrev S100x16x64 : Shape := ⟨3, ![100, 16, 64]⟩
abbrev S64 : Shape := ⟨1, ![64]⟩
abbrev S64x16x64 : Shape := ⟨3, ![64, 16, 64]⟩
abbrev S64x1 : Shape := ⟨2, ![64, 1]⟩
abbrev S1 : Shape := ⟨1, ![1]⟩
abbrev S_ : Shape := ⟨0, ![]⟩
abbrev S15 : Shape := ⟨1, ![15]⟩
abbrev S16 : Shape := ⟨1, ![16]⟩
abbrev S1x1x16 : Shape := ⟨3, ![1, 1, 16]⟩
abbrev S16384x100x1 : Shape := ⟨3, ![16384, 100, 1]⟩
abbrev S16384x100x16 : Shape := ⟨3, ![16384, 100, 16]⟩
abbrev S100 : Shape := ⟨1, ![100]⟩
abbrev S1x100 : Shape := ⟨2, ![1, 100]⟩
abbrev S16384x100x2 : Shape := ⟨3, ![16384, 100, 2]⟩
abbrev S16384x100x64 : Shape := ⟨3, ![16384, 100, 64]⟩
abbrev S16384x64 : Shape := ⟨2, ![16384, 64]⟩
abbrev S1x64 : Shape := ⟨2, ![1, 64]⟩
abbrev S16384x64x1 : Shape := ⟨3, ![16384, 64, 1]⟩
abbrev S16384x64x16 : Shape := ⟨3, ![16384, 64, 16]⟩
abbrev S16384x64x2 : Shape := ⟨3, ![16384, 64, 2]⟩
abbrev S16384x64x64 : Shape := ⟨3, ![16384, 64, 64]⟩
abbrev S16384x1 : Shape := ⟨2, ![16384, 1]⟩
abbrev S1x1 : Shape := ⟨2, ![1, 1]⟩

abbrev nBuf : Space → Nat
  | .hbm => 240
  | .vmem => 0
  | .smem => 0
  | _ => 0

abbrev hbmTy0_0 (i : Nat) : BufTy := match i % 128 with
  | 0 => ⟨S16384x100, .f32⟩
  | 1 => ⟨S100x16x64, .f32⟩
  | 2 => ⟨S64, .f32⟩
  | 3 => ⟨S64x16x64, .f32⟩
  | 4 => ⟨S64, .f32⟩
  | 5 => ⟨S64x1, .f32⟩
  | 6 => ⟨S1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S15, .f32⟩
  | 15 => ⟨S_, .f32⟩
  | 16 => ⟨S15, .f32⟩
  | 17 => ⟨S15, .f32⟩
  | 18 => ⟨S1, .f32⟩
  | 19 => ⟨S_, .f32⟩
  | 20 => ⟨S15, .f32⟩
  | 21 => ⟨S15, .f32⟩
  | 22 => ⟨S15, .f32⟩
  | 23 => ⟨S15, .f32⟩
  | 24 => ⟨S1, .f32⟩
  | 25 => ⟨S15, .f32⟩
  | 26 => ⟨S15, .f32⟩
  | 27 => ⟨S15, .f32⟩
  | 28 => ⟨S1, .f32⟩
  | 29 => ⟨S16, .f32⟩
  | 30 => ⟨S1x1x16, .f32⟩
  | 31 => ⟨S16384x100x1, .f32⟩
  | 32 => ⟨S16384x100x16, .f32⟩
  | 33 => ⟨S16384x100x16, .f32⟩
  | 34 => ⟨S16384x100x16, .i1⟩
  | 35 => ⟨S16384x100x16, .i32⟩
  | 36 => ⟨S_, .i32⟩
  | 37 => ⟨S16384x100, .i32⟩
  | 38 => ⟨S_, .i32⟩
  | 39 => ⟨S_, .i32⟩
  | 40 => ⟨S_, .i32⟩
  | 41 => ⟨S16384x100, .i32⟩
  | 42 => ⟨S16384x100, .i32⟩
  | 43 => ⟨S_, .i32⟩
  | 44 => ⟨S16384x100, .i32⟩
  | 45 => ⟨S16384x100, .i32⟩
  | 46 => ⟨S_, .i32⟩
  | 47 => ⟨S16384x100, .i32⟩
  | 48 => ⟨S16384x100, .i32⟩
  | 49 => ⟨S_, .i32⟩
  | 50 => ⟨S16384x100, .i32⟩
  | 51 => ⟨S16384x100, .i1⟩
  | 52 => ⟨S_, .i32⟩
  | 53 => ⟨S16384x100, .i32⟩
  | 54 => ⟨S16384x100, .i32⟩
  | 55 => ⟨S16384x100, .i32⟩
  | 56 => ⟨S16384x100x1, .i32⟩
  | 57 => ⟨S16384x100, .f32⟩
  | 58 => ⟨S_, .i32⟩
  | 59 => ⟨S16384x100, .i32⟩
  | 60 => ⟨S16384x100, .i1⟩
  | 61 => ⟨S_, .i32⟩
  | 62 => ⟨S16384x100, .i32⟩
  | 63 => ⟨S16384x100, .i32⟩
  | 64 => ⟨S16384x100, .i32⟩
  | 65 => ⟨S16384x100x1, .i32⟩
  | 66 => ⟨S16384x100, .f32⟩
  | 67 => ⟨S16384x100, .f32⟩
  | 68 => ⟨S_, .f32⟩
  | 69 => ⟨S16384x100, .f32⟩
  | 70 => ⟨S16384x100, .f32⟩
  | 71 => ⟨S16384x100, .f32⟩
  | 72 => ⟨S16384x100, .f32⟩
  | 73 => ⟨S_, .f32⟩
  | 74 => ⟨S16384x100, .f32⟩
  | 75 => ⟨S16384x100, .f32⟩
  | 76 => ⟨S16384x100x1, .f32⟩
  | 77 => ⟨S16384x100x1, .f32⟩
  | 78 => ⟨S100, .i32⟩
  | 79 => ⟨S1x100, .i32⟩
  | 80 => ⟨S16384x100, .i32⟩
  | 81 => ⟨S_, .i32⟩
  | 82 => ⟨S16384x100, .i32⟩
  | 83 => ⟨S16384x100, .i32⟩
  | 84 => ⟨S_, .i32⟩
  | 85 => ⟨S16384x100, .i32⟩
  | 86 => ⟨S16384x100, .i1⟩
  | 87 => ⟨S_, .i32⟩
  | 88 => ⟨S16384x100, .i32⟩
  | 89 => ⟨S16384x100, .i32⟩
  | 90 => ⟨S16384x100, .i32⟩
  | 91 => ⟨S_, .i32⟩
  | 92 => ⟨S16384x100, .i32⟩
  | 93 => ⟨S16384x100, .i1⟩
  | 94 => ⟨S_, .i32⟩
  | 95 => ⟨S16384x100, .i32⟩
  | 96 => ⟨S16384x100, .i32⟩
  | 97 => ⟨S16384x100, .i32⟩
  | 98 => ⟨S16384x100x1, .i32⟩
  | 99 => ⟨S16384x100x1, .i32⟩
  | 100 => ⟨S16384x100x2, .i32⟩
  | 101 => ⟨S16384x100x64, .f32⟩
  | 102 => ⟨S_, .i32⟩
  | 103 => ⟨S16384x100, .i32⟩
  | 104 => ⟨S16384x100, .i1⟩
  | 105 => ⟨S_, .i32⟩
  | 106 => ⟨S16384x100, .i32⟩
  | 107 => ⟨S16384x100, .i32⟩
  | 108 => ⟨S16384x100, .i32⟩
  | 109 => ⟨S_, .i32⟩
  | 110 => ⟨S16384x100, .i32⟩
  | 111 => ⟨S16384x100, .i1⟩
  | 112 => ⟨S_, .i32⟩
  | 113 => ⟨S16384x100, .i32⟩
  | 114 => ⟨S16384x100, .i32⟩
  | 115 => ⟨S16384x100, .i32⟩
  | 116 => ⟨S16384x100x1, .i32⟩
  | 117 => ⟨S16384x100x1, .i32⟩
  | 118 => ⟨S16384x100x2, .i32⟩
  | 119 => ⟨S16384x100x64, .f32⟩
  | 120 => ⟨S16384x100x64, .f32⟩
  | 121 => ⟨S16384x100x64, .f32⟩
  | 122 => ⟨S16384x100x64, .f32⟩
  | 123 => ⟨S16384x100x64, .f32⟩
  | 124 => ⟨S16384x100x64, .f32⟩
  | 125 => ⟨S_, .f32⟩
  | 126 => ⟨S16384x64, .f32⟩
  | 127 => ⟨S1x64, .f32⟩
  | _ => ⟨S16384x100, .f32⟩

abbrev hbmTy0_1 (i : Nat) : BufTy := match i % 128 with
  | 0 => ⟨S16384x64, .f32⟩
  | 1 => ⟨S16384x64, .f32⟩
  | 2 => ⟨S_, .f32⟩
  | 3 => ⟨S16384x64, .f32⟩
  | 4 => ⟨S16384x64, .f32⟩
  | 5 => ⟨S1x1x16, .f32⟩
  | 6 => ⟨S16384x64x1, .f32⟩
  | 7 => ⟨S16384x64x16, .f32⟩
  | 8 => ⟨S16384x64x16, .f32⟩
  | 9 => ⟨S16384x64x16, .i1⟩
  | 10 => ⟨S16384x64x16, .i32⟩
  | 11 => ⟨S_, .i32⟩
  | 12 => ⟨S16384x64, .i32⟩
  | 13 => ⟨S_, .i32⟩
  | 14 => ⟨S_, .i32⟩
  | 15 => ⟨S_, .i32⟩
  | 16 => ⟨S16384x64, .i32⟩
  | 17 => ⟨S16384x64, .i32⟩
  | 18 => ⟨S_, .i32⟩
  | 19 => ⟨S16384x64, .i32⟩
  | 20 => ⟨S16384x64, .i32⟩
  | 21 => ⟨S_, .i32⟩
  | 22 => ⟨S16384x64, .i32⟩
  | 23 => ⟨S16384x64, .i32⟩
  | 24 => ⟨S_, .i32⟩
  | 25 => ⟨S16384x64, .i32⟩
  | 26 => ⟨S16384x64, .i1⟩
  | 27 => ⟨S_, .i32⟩
  | 28 => ⟨S16384x64, .i32⟩
  | 29 => ⟨S16384x64, .i32⟩
  | 30 => ⟨S16384x64, .i32⟩
  | 31 => ⟨S16384x64x1, .i32⟩
  | 32 => ⟨S16384x64, .f32⟩
  | 33 => ⟨S_, .i32⟩
  | 34 => ⟨S16384x64, .i32⟩
  | 35 => ⟨S16384x64, .i1⟩
  | 36 => ⟨S_, .i32⟩
  | 37 => ⟨S16384x64, .i32⟩
  | 38 => ⟨S16384x64, .i32⟩
  | 39 => ⟨S16384x64, .i32⟩
  | 40 => ⟨S16384x64x1, .i32⟩
  | 41 => ⟨S16384x64, .f32⟩
  | 42 => ⟨S16384x64, .f32⟩
  | 43 => ⟨S_, .f32⟩
  | 44 => ⟨S16384x64, .f32⟩
  | 45 => ⟨S16384x64, .f32⟩
  | 46 => ⟨S16384x64, .f32⟩
  | 47 => ⟨S16384x64, .f32⟩
  | 48 => ⟨S_, .f32⟩
  | 49 => ⟨S16384x64, .f32⟩
  | 50 => ⟨S16384x64, .f32⟩
  | 51 => ⟨S16384x64x1, .f32⟩
  | 52 => ⟨S16384x64x1, .f32⟩
  | 53 => ⟨S64, .i32⟩
  | 54 => ⟨S1x64, .i32⟩
  | 55 => ⟨S16384x64, .i32⟩
  | 56 => ⟨S_, .i32⟩
  | 57 => ⟨S16384x64, .i32⟩
  | 58 => ⟨S16384x64, .i32⟩
  | 59 => ⟨S_, .i32⟩
  | 60 => ⟨S16384x64, .i32⟩
  | 61 => ⟨S16384x64, .i1⟩
  | 62 => ⟨S_, .i32⟩
  | 63 => ⟨S16384x64, .i32⟩
  | 64 => ⟨S16384x64, .i32⟩
  | 65 => ⟨S16384x64, .i32⟩
  | 66 => ⟨S_, .i32⟩
  | 67 => ⟨S16384x64, .i32⟩
  | 68 => ⟨S16384x64, .i1⟩
  | 69 => ⟨S_, .i32⟩
  | 70 => ⟨S16384x64, .i32⟩
  | 71 => ⟨S16384x64, .i32⟩
  | 72 => ⟨S16384x64, .i32⟩
  | 73 => ⟨S16384x64x1, .i32⟩
  | 74 => ⟨S16384x64x1, .i32⟩
  | 75 => ⟨S16384x64x2, .i32⟩
  | 76 => ⟨S16384x64x64, .f32⟩
  | 77 => ⟨S_, .i32⟩
  | 78 => ⟨S16384x64, .i32⟩
  | 79 => ⟨S16384x64, .i1⟩
  | 80 => ⟨S_, .i32⟩
  | 81 => ⟨S16384x64, .i32⟩
  | 82 => ⟨S16384x64, .i32⟩
  | 83 => ⟨S16384x64, .i32⟩
  | 84 => ⟨S_, .i32⟩
  | 85 => ⟨S16384x64, .i32⟩
  | 86 => ⟨S16384x64, .i1⟩
  | 87 => ⟨S_, .i32⟩
  | 88 => ⟨S16384x64, .i32⟩
  | 89 => ⟨S16384x64, .i32⟩
  | 90 => ⟨S16384x64, .i32⟩
  | 91 => ⟨S16384x64x1, .i32⟩
  | 92 => ⟨S16384x64x1, .i32⟩
  | 93 => ⟨S16384x64x2, .i32⟩
  | 94 => ⟨S16384x64x64, .f32⟩
  | 95 => ⟨S16384x64x64, .f32⟩
  | 96 => ⟨S16384x64x64, .f32⟩
  | 97 => ⟨S16384x64x64, .f32⟩
  | 98 => ⟨S16384x64x64, .f32⟩
  | 99 => ⟨S16384x64x64, .f32⟩
  | 100 => ⟨S_, .f32⟩
  | 101 => ⟨S16384x64, .f32⟩
  | 102 => ⟨S1x64, .f32⟩
  | 103 => ⟨S16384x64, .f32⟩
  | 104 => ⟨S16384x64, .f32⟩
  | 105 => ⟨S_, .f32⟩
  | 106 => ⟨S16384x64, .f32⟩
  | 107 => ⟨S16384x64, .f32⟩
  | 108 => ⟨S16384x1, .f32⟩
  | 109 => ⟨S1x1, .f32⟩
  | 110 => ⟨S16384x1, .f32⟩
  | 111 => ⟨S16384x1, .f32⟩
  | _ => ⟨S16384x100, .f32⟩

abbrev hbmTy (i : Nat) : BufTy := match i / 128 with
  | 0 => hbmTy0_0 i
  | 1 => hbmTy0_1 i
  | _ => ⟨S16384x100, .f32⟩

abbrev bufTy : (tb : Table) → Fin (tcTables nBuf tb) → BufTy
  | .hbm, ⟨i, _⟩ => hbmTy i
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c : Ref sig .tc := ⟨.hbm, 36, rfl⟩
abbrev main_v7 : Ref sig .tc := ⟨.hbm, 37, rfl⟩
abbrev main_c_1 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v8 : Ref sig .tc := ⟨.hbm, 45, rfl⟩
abbrev main_c_3 : Ref sig .tc := ⟨.hbm, 46, rfl⟩
abbrev main_v9 : Ref sig .tc := ⟨.hbm, 47, rfl⟩
abbrev main_v10 : Ref sig .tc := ⟨.hbm, 48, rfl⟩
abbrev main_c_4 : Ref sig .tc := ⟨.hbm, 49, rfl⟩
abbrev main_v11 : Ref sig .tc := ⟨.hbm, 50, rfl⟩
abbrev main_v12 : Ref sig .tc := ⟨.hbm, 51, rfl⟩
abbrev main_c_5 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_6 : Ref sig .tc := ⟨.hbm, 58, rfl⟩
abbrev main_v18 : Ref sig .tc := ⟨.hbm, 59, rfl⟩
abbrev main_v19 : Ref sig .tc := ⟨.hbm, 60, rfl⟩
abbrev main_c_7 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_8 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_9 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_10 : Ref sig .tc := ⟨.hbm, 81, rfl⟩
abbrev main_v37 : Ref sig .tc := ⟨.hbm, 82, rfl⟩
abbrev main_v38 : Ref sig .tc := ⟨.hbm, 83, rfl⟩
abbrev main_c_11 : Ref sig .tc := ⟨.hbm, 84, rfl⟩
abbrev main_v39 : Ref sig .tc := ⟨.hbm, 85, rfl⟩
abbrev main_v40 : Ref sig .tc := ⟨.hbm, 86, rfl⟩
abbrev main_c_12 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_13 : Ref sig .tc := ⟨.hbm, 91, rfl⟩
abbrev main_v44 : Ref sig .tc := ⟨.hbm, 92, rfl⟩
abbrev main_v45 : Ref sig .tc := ⟨.hbm, 93, rfl⟩
abbrev main_c_14 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_c_15 : Ref sig .tc := ⟨.hbm, 102, rfl⟩
abbrev main_v53 : Ref sig .tc := ⟨.hbm, 103, rfl⟩
abbrev main_v54 : Ref sig .tc := ⟨.hbm, 104, rfl⟩
abbrev main_c_16 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_c_17 : Ref sig .tc := ⟨.hbm, 109, rfl⟩
abbrev main_v58 : Ref sig .tc := ⟨.hbm, 110, rfl⟩
abbrev main_v59 : Ref sig .tc := ⟨.hbm, 111, rfl⟩
abbrev main_c_18 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_19 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_call2_cst : Ref sig .tc := ⟨.hbm, 130, rfl⟩
abbrev main_call2_v0 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_20 : Ref sig .tc := ⟨.hbm, 139, rfl⟩
abbrev main_v83 : Ref sig .tc := ⟨.hbm, 140, rfl⟩
abbrev main_c_21 : Ref sig .tc := ⟨.hbm, 141, rfl⟩
abbrev main_c_22 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_v84 : Ref sig .tc := ⟨.hbm, 148, rfl⟩
abbrev main_c_23 : Ref sig .tc := ⟨.hbm, 149, rfl⟩
abbrev main_v85 : Ref sig .tc := ⟨.hbm, 150, rfl⟩
abbrev main_v86 : Ref sig .tc := ⟨.hbm, 151, rfl⟩
abbrev main_c_24 : Ref sig .tc := ⟨.hbm, 152, rfl⟩
abbrev main_v87 : Ref sig .tc := ⟨.hbm, 153, rfl⟩
abbrev main_v88 : Ref sig .tc := ⟨.hbm, 154, rfl⟩
abbrev main_c_25 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_26 : Ref sig .tc := ⟨.hbm, 161, rfl⟩
abbrev main_v94 : Ref sig .tc := ⟨.hbm, 162, rfl⟩
abbrev main_v95 : Ref sig .tc := ⟨.hbm, 163, rfl⟩
abbrev main_c_27 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_cst_28 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_29 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_c_30 : Ref sig .tc := ⟨.hbm, 184, rfl⟩
abbrev main_v113 : Ref sig .tc := ⟨.hbm, 185, rfl⟩
abbrev main_v114 : Ref sig .tc := ⟨.hbm, 186, rfl⟩
abbrev main_c_31 : Ref sig .tc := ⟨.hbm, 187, rfl⟩
abbrev main_v115 : Ref sig .tc := ⟨.hbm, 188, rfl⟩
abbrev main_v116 : Ref sig .tc := ⟨.hbm, 189, rfl⟩
abbrev main_c_32 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_c_33 : Ref sig .tc := ⟨.hbm, 194, rfl⟩
abbrev main_v120 : Ref sig .tc := ⟨.hbm, 195, rfl⟩
abbrev main_v121 : Ref sig .tc := ⟨.hbm, 196, rfl⟩
abbrev main_c_34 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_c_35 : Ref sig .tc := ⟨.hbm, 205, rfl⟩
abbrev main_v129 : Ref sig .tc := ⟨.hbm, 206, rfl⟩
abbrev main_v130 : Ref sig .tc := ⟨.hbm, 207, rfl⟩
abbrev main_c_36 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_c_37 : Ref sig .tc := ⟨.hbm, 212, rfl⟩
abbrev main_v134 : Ref sig .tc := ⟨.hbm, 213, rfl⟩
abbrev main_v135 : Ref sig .tc := ⟨.hbm, 214, rfl⟩
abbrev main_c_38 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_cst_39 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_call4_cst : Ref sig .tc := ⟨.hbm, 233, rfl⟩
abbrev main_call4_v0 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩

abbrev nD : Nat := 1
abbrev τ : Topo := Topo.v7x

variable {F : FTy → Type} [FloatOps F]
-- ==== Proof.Hat.lean ====
/-
  The arithmetic of a piecewise linear spline over the sixteen equally spaced knots -3, -3 + 2/5, …, 3, on the reals.

  One side looks the value up: it counts the knots below `x`, clips the count to 1…15 to get the upper end `cell x` of
  the interval of `x`, and interpolates between two table rows with weights `1 - frac x` and `frac x`. The other side
  weighs all sixteen rows by the hat functions `hat q` of the position `(x + 3) * (5 / 2)`. `hat_pos` says that these are
  the lookup's two weights at the interval's ends and zero elsewhere.
-/
module

public import Idealize.ShloMosaic.PureOps.Ideal

@[expose] public section

noncomputable section

namespace Cert.Spline

/-- The `k`-th knot. -/
def knot (k : ℕ) : ℝ := -3 + 2 / 5 * k

/-- The position of `x` in units of the distance of two knots. -/
def pos (x : ℝ) : ℝ := (x + 3) * (5 / 2)

/-- The number of the knot that ends the interval of `x`, from 1 to 15: the outer intervals reach to infinity. -/
def cell (x : ℝ) : ℕ := min (max ⌈pos x⌉₊ 1) 15

/-- How far `x` is into its interval, as a fraction of the interval. -/
def frac (x : ℝ) : ℝ := pos x - (cell x - 1 : ℝ)

/-- The weight of row `q` at position `p`. The two functions at each end carry the linear continuation outside. -/
def hat (q : ℕ) (p : ℝ) : ℝ :=
  if q = 0 then max (1 - p) 0
  else if q = 1 then min p (max (2 - p) 0)
  else if q = 14 then min (max (p - 13) 0) (15 - p)
  else if q = 15 then max (p - 14) 0
  else max (1 - |p - q|) 0

theorem one_le_cell (x : ℝ) : 1 ≤ cell x := by unfold cell; omega

theorem cell_le (x : ℝ) : cell x ≤ 15 := by unfold cell; omega

/-- A knot lies below `x` exactly when its number lies below the position of `x`. -/
theorem knot_lt (k : ℕ) (x : ℝ) : knot k < x ↔ k < ⌈pos x⌉₊ := by
  rw [Nat.lt_ceil]
  unfold knot pos
  constructor <;> intro h <;> linarith

/-- Counting the numbers below `c` among the first `n`. -/
theorem count_lt (c n : ℕ) : Nat.count (fun k => k < c) n = min n c := by
  induction n with
  | zero => simp
  | succ n ih =>
    rw [Nat.count_succ, ih]
    split <;> omega

/-- The clipped count of the knots below `x` is `cell x`. -/
theorem clip_count (x : ℝ) (P : ℕ → Prop) [DecidablePred P] (hP : ∀ k < 16, P k ↔ knot k < x) :
    min (max (Nat.count P 16) 1) 15 = cell x := by
  have e : Nat.count P 16 = Nat.count (fun k => k < ⌈pos x⌉₊) 16 := by
    rw [Nat.count_eq_card_filter_range, Nat.count_eq_card_filter_range]
    refine congrArg Finset.card (Finset.filter_congr fun k hk => ?_)
    rw [hP k (Finset.mem_range.1 hk), knot_lt]
  rw [e, count_lt]
  unfold cell
  omega

/-- Past the first interval, the knot before the interval's end is below the position. -/
theorem lt_pos_of_one_lt {x : ℝ} (h : 1 < cell x) : (cell x : ℝ) - 1 < pos x := by
  have h1 : cell x - 1 < ⌈pos x⌉₊ := by unfold cell at h ⊢; omega
  have h2 := Nat.lt_ceil.1 h1
  rwa [Nat.cast_sub (one_le_cell x), Nat.cast_one] at h2

/-- Before the last interval, the position is at most the interval's end. -/
theorem pos_le_of_lt {x : ℝ} (h : cell x < 15) : pos x ≤ cell x := by
  refine Nat.ceil_le.1 ?_
  unfold cell at h ⊢
  omega

/-- Every hat function at the position of `x`: the two ends of the interval of `x` get the two weights, the others 0. -/
theorem hat_pos (x : ℝ) (q : ℕ) (hq : q < 16) :
    hat q (pos x) = if q = cell x then frac x else if q + 1 = cell x then 1 - frac x else 0 := by
  have h1 := one_le_cell x
  have h15 := cell_le x
  have hlo := @lt_pos_of_one_lt x
  have hhi := @pos_le_of_lt x
  unfold frac
  generalize cell x = n at *
  generalize pos x = p at *
  -- an interior row
  have mid : ∀ q : ℕ, 2 ≤ q → q < 14 →
      max (1 - |p - q|) 0 = if q = n then p - (n - 1 : ℝ) else if q + 1 = n then 1 - (p - (n - 1 : ℝ)) else 0 := by
    intro q hq2 hq14
    split_ifs with e1 e2
    · subst e1
      have a := hlo (by omega); have b := hhi (by omega)
      rw [abs_of_nonpos (by linarith), max_eq_left (by linarith)]; ring
    · have a := hlo (by omega)
      have c : (n : ℝ) = q + 1 := by exact_mod_cast e2.symm
      by_cases h : n < 15
      · have b := hhi h
        rw [abs_of_nonneg (by linarith), max_eq_left (by linarith), c]; ring
      · omega
    · rcases Nat.lt_or_gt_of_ne e1 with h | h
      · have a := hlo (by omega)
        have c : (q : ℝ) + 2 ≤ n := by exact_mod_cast (by omega : q + 2 ≤ n)
        rw [max_eq_right]; rw [abs_of_nonneg] <;> linarith
      · have b := hhi (by omega)
        have c : (n : ℝ) + 1 ≤ q := by exact_mod_cast (by omega : n + 1 ≤ q)
        rw [max_eq_right]; rw [abs_of_nonpos] <;> linarith
  unfold hat
  by_cases q0 : q = 0
  · subst q0
    rw [if_pos rfl, if_neg (by omega)]
    split_ifs with e
    · obtain rfl : n = 1 := by omega
      have b := hhi (by omega)
      rw [max_eq_left] <;> push_cast at * <;> linarith
    · have a := hlo (by omega)
      have c : (2 : ℝ) ≤ n := by exact_mod_cast (by omega : 2 ≤ n)
      rw [max_eq_right]; linarith
  by_cases q1 : q = 1
  · subst q1
    rw [if_neg q0, if_pos rfl]
    split_ifs with e1 e2
    · subst e1
      have b := hhi (by omega)
      push_cast at b ⊢
      rw [max_eq_left (by linarith), min_eq_left (by linarith)]; ring
    · obtain rfl : n = 2 := by omega
      have a := hlo (by omega); have b := hhi (by omega)
      push_cast at a b ⊢
      rw [max_eq_left (by linarith), min_eq_right (by linarith)]; ring
    · have a := hlo (by omega)
      have c : (3 : ℝ) ≤ n := by exact_mod_cast (by omega : 3 ≤ n)
      rw [max_eq_right (by linarith), min_eq_right (by linarith)]
  by_cases q14 : q = 14
  · subst q14
    rw [if_neg q0, if_neg q1, if_pos rfl]
    split_ifs with e1 e2
    · subst e1
      have a := hlo (by omega); have b := hhi (by omega)
      push_cast at a b ⊢
      rw [max_eq_left (by linarith), min_eq_left (by linarith)]; ring
    · obtain rfl : n = 15 := by omega
      have a := hlo (by omega)
      push_cast at a ⊢
      rw [max_eq_left (by linarith), min_eq_right (by linarith)]; ring
    · have b := hhi (by omega)
      have c : (n : ℝ) ≤ 13 := by exact_mod_cast (by omega : n ≤ 13)
      rw [max_eq_right (by linarith), min_eq_left (by linarith)]
  by_cases q15 : q = 15
  · subst q15
    rw [if_neg q0, if_neg q1, if_neg q14, if_pos rfl]
    split_ifs with e1 e2
    · subst e1
      have a := hlo (by omega)
      push_cast at a ⊢
      rw [max_eq_left (by linarith)]; ring
    · omega
    · have b := hhi (by omega)
      have c : (n : ℝ) ≤ 14 := by exact_mod_cast (by omega : n ≤ 14)
      rw [max_eq_right (by linarith)]
  · rw [if_neg q0, if_neg q1, if_neg q14, if_neg q15]
    exact mid q (by omega) (by omega)

/-- A sum over consecutive numbers of a function that is zero but at `n - 1` and at `n`. -/
theorem sum_two {M : Type} [AddCommMonoid M] {N lo n : ℕ} (a b : M) (h1 : lo + 1 ≤ n) (h2 : n < lo + N) :
    ∑ q : Fin N, (if lo + q.val = n then b else if lo + q.val + 1 = n then a else 0) = a + b := by
  have e : ∀ q : Fin N, (if lo + q.val = n then b else if lo + q.val + 1 = n then a else 0)
      = (if q = ⟨n - 1 - lo, by omega⟩ then a else 0) + (if q = ⟨n - lo, by omega⟩ then b else 0) := by
    intro q
    have i1 : (q = (⟨n - 1 - lo, by omega⟩ : Fin N)) ↔ lo + q.val + 1 = n := by rw [Fin.ext_iff]; dsimp only; omega
    have i2 : (q = (⟨n - lo, by omega⟩ : Fin N)) ↔ lo + q.val = n := by rw [Fin.ext_iff]; dsimp only; omega
    simp only [i1, i2]
    by_cases c1 : lo + q.val = n
    · rw [if_pos c1, if_pos c1, if_neg (by omega), zero_add]
    · rw [if_neg c1, if_neg c1, add_zero]
  rw [Finset.sum_congr rfl fun q _ => e q, Finset.sum_add_distrib, Finset.sum_ite_eq', Finset.sum_ite_eq']
  simp only [Finset.mem_univ, if_true]

/-- A number that is not negative lies in one of the last eight intervals. -/
theorem eight_le_cell {x : ℝ} (hx : 0 ≤ x) : 8 ≤ cell x := by
  have h : 7 < ⌈pos x⌉₊ := by rw [Nat.lt_ceil]; unfold pos; push_cast; linarith
  unfold cell
  omega

/-- The fraction is what the lookup computes: the distance from the interval's lower knot over the distance of the knots. -/
theorem frac_eq (x : ℝ) : frac x = (x - knot (cell x - 1)) * (2 / 5)⁻¹ := by
  unfold frac pos knot
  rw [Nat.cast_sub (one_le_cell x)]
  push_cast
  ring

/-- Two neighbouring knots are 2/5 apart. -/
theorem knot_sub (n : ℕ) (h : 1 ≤ n) : knot n - knot (n - 1) = 2 / 5 := by
  unfold knot
  rw [Nat.cast_sub h]
  push_cast
  ring

end Cert.Spline

end
-- ==== Proof.Consts.lean ====
/-
  The float literals of the two programs, read as extended reals.
-/
module

public import Idealize.ShloMosaic.PureOps.Ideal

@[expose] public section

noncomputable section

namespace Cert.Spline

open Idealize.ShloMosaic

/-- The literal -3. -/
theorem lit_neg3 : Ideal.ofBits .f32 0xC0400000#32 = ((-3 : ℝ) : EReal) := by
  simp [Ideal.ofBits, Ideal.ieee, -EReal.coe_mul]; norm_num
/-- The literal 1. -/
theorem lit_1 : Ideal.ofBits .f32 0x3F800000#32 = ((1 : ℝ) : EReal) := by
  simp [Ideal.ofBits, Ideal.ieee, -EReal.coe_mul]; norm_num
/-- The literal 2. -/
theorem lit_2 : Ideal.ofBits .f32 0x40000000#32 = ((2 : ℝ) : EReal) := by
  simp [Ideal.ofBits, Ideal.ieee, -EReal.coe_mul]; norm_num
/-- The literal 5/2. -/
theorem lit_5_2 : Ideal.ofBits .f32 0x40200000#32 = ((5 / 2 : ℝ) : EReal) := by
  simp [Ideal.ofBits, Ideal.ieee, -EReal.coe_mul]; norm_num
/-- The literal 3. -/
theorem lit_3 : Ideal.ofBits .f32 0x40400000#32 = ((3 : ℝ) : EReal) := by
  simp [Ideal.ofBits, Ideal.ieee, -EReal.coe_mul]; norm_num
/-- The literal 4. -/
theorem lit_4 : Ideal.ofBits .f32 0x40800000#32 = ((4 : ℝ) : EReal) := by
  simp [Ideal.ofBits, Ideal.ieee, -EReal.coe_mul]; norm_num
/-- The literal 5. -/
theorem lit_5 : Ideal.ofBits .f32 0x40A00000#32 = ((5 : ℝ) : EReal) := by
  simp [Ideal.ofBits, Ideal.ieee, -EReal.coe_mul]; norm_num
/-- The literal 6. -/
theorem lit_6 : Ideal.ofBits .f32 0x40C00000#32 = ((6 : ℝ) : EReal) := by
  simp [Ideal.ofBits, Ideal.ieee, -EReal.coe_mul]; norm_num
/-- The literal 7. -/
theorem lit_7 : Ideal.ofBits .f32 0x40E00000#32 = ((7 : ℝ) : EReal) := by
  simp [Ideal.ofBits, Ideal.ieee, -EReal.coe_mul]; norm_num
/-- The literal 8. -/
theorem lit_8 : Ideal.ofBits .f32 0x41000000#32 = ((8 : ℝ) : EReal) := by
  simp [Ideal.ofBits, Ideal.ieee, -EReal.coe_mul]; norm_num
/-- The literal 9. -/
theorem lit_9 : Ideal.ofBits .f32 0x41100000#32 = ((9 : ℝ) : EReal) := by
  simp [Ideal.ofBits, Ideal.ieee, -EReal.coe_mul]; norm_num
/-- The literal 10. -/
theorem lit_10 : Ideal.ofBits .f32 0x41200000#32 = ((10 : ℝ) : EReal) := by
  simp [Ideal.ofBits, Ideal.ieee, -EReal.coe_mul]; norm_num
/-- The literal 11. -/
theorem lit_11 : Ideal.ofBits .f32 0x41300000#32 = ((11 : ℝ) : EReal) := by
  simp [Ideal.ofBits, Ideal.ieee, -EReal.coe_mul]; norm_num
/-- The literal 12. -/
theorem lit_12 : Ideal.ofBits .f32 0x41400000#32 = ((12 : ℝ) : EReal) := by
  simp [Ideal.ofBits, Ideal.ieee, -EReal.coe_mul]; norm_num
/-- The literal 13. -/
theorem lit_13 : Ideal.ofBits .f32 0x41500000#32 = ((13 : ℝ) : EReal) := by
  simp [Ideal.ofBits, Ideal.ieee, -EReal.coe_mul]; norm_num
/-- The literal 14. -/
theorem lit_14 : Ideal.ofBits .f32 0x41600000#32 = ((14 : ℝ) : EReal) := by
  simp [Ideal.ofBits, Ideal.ieee, -EReal.coe_mul]; norm_num
/-- The literal 15. -/
theorem lit_15 : Ideal.ofBits .f32 0x41700000#32 = ((15 : ℝ) : EReal) := by
  simp [Ideal.ofBits, Ideal.ieee, -EReal.coe_mul]; norm_num
/-- The literal closest to 1e-8, exactly. -/
theorem lit_floor : Ideal.ofBits .f32 0x322BCC77#32 = ((11258999 / 2 ^ 50 : ℝ) : EReal) := by
  simp [Ideal.ofBits, Ideal.ieee, -EReal.coe_mul]; norm_num
/-- The literal of the positive infinity. -/
theorem lit_top : Ideal.ofBits .f32 0x7F800000#32 = ⊤ := by
  simp [Ideal.ofBits, Ideal.ieee]

end Cert.Spline

end
-- ==== Proof.Basis.lean ====
/-
  The kernel's basis: the hat functions of every entry of a layer's input, laid side by side, one block of columns per knot.
-/
module

public import proofs.«01_k».proof.Proof.Gen.KernelIdeal.Frame
public import proofs.«01_k».proof.Proof.Hat
public import proofs.«01_k».proof.Proof.Consts
public import Idealize.ShloMosaic.Lib.Pointwise
public import Idealize.ShloMosaic.Lib.Pipeline.ValueKit

@[expose] public section

set_option maxRecDepth 16384

noncomputable section

namespace Cert.Ker

open Cert.KernelIdeal Cert.KernelIdeal.Gen Cert.Spline Idealize.ShloMosaic

/-! ## One hat function -/

section Scalars

variable {s : Shape} {v : FVec Ideal s .f32} {i : s.Idx} {p : ℝ}

/-- The greater of two reals, read among the extended reals. -/
theorem coe_max (a b : ℝ) : max (a : EReal) (b : EReal) = ((max a b : ℝ) : EReal) := (EReal.coe_strictMono.monotone.map_max).symm

/-- The lesser of two reals, read among the extended reals. -/
theorem coe_min (a b : ℝ) : min (a : EReal) (b : EReal) = ((min a b : ℝ) : EReal) := (EReal.coe_strictMono.monotone.map_min).symm

/-- The literal 0. -/
theorem lit_0 : Ideal.ofBits .f32 0x00000000#32 = ((0 : ℝ) : EReal) := Ideal.ofBits_zero_f32

/-- The hat over an inner knot. -/
theorem hat_mid (q : ℕ) (w : BitVec 32) (hw : Ideal.ofBits .f32 w = ((q : ℝ) : EReal)) (h2 : 2 ≤ q) (h13 : q ≤ 13) (hP : v i = (p : EReal)) :
    maximumf (subf (broadcast s (Scalar.ofBits .f32 0x3F800000#32)) (absf (subf v (broadcast s (Scalar.ofBits .f32 w)))))
      (broadcast s (Scalar.ofBits .f32 0x00000000#32)) i = ((hat q p : ℝ) : EReal) := by
  show max (Ideal.ofBits .f32 0x3F800000#32 - max (v i - Ideal.ofBits .f32 w) (-(v i - Ideal.ofBits .f32 w))) (Ideal.ofBits .f32 0x00000000#32) = _
  rw [hw, hP, lit_1, lit_0, ← EReal.coe_sub, ← EReal.coe_neg, coe_max, ← EReal.coe_sub, coe_max]
  unfold hat
  rw [if_neg (by omega), if_neg (by omega), if_neg (by omega), if_neg (by omega), abs_eq_max_neg]

/-- The function of the first knot. -/
theorem hat_zero (hP : v i = (p : EReal)) :
    maximumf (subf (broadcast s (Scalar.ofBits .f32 0x3F800000#32)) v) (broadcast s (Scalar.ofBits .f32 0x00000000#32)) i
      = ((hat 0 p : ℝ) : EReal) := by
  show max (Ideal.ofBits .f32 0x3F800000#32 - v i) (Ideal.ofBits .f32 0x00000000#32) = _
  rw [hP, lit_1, lit_0, ← EReal.coe_sub, coe_max]
  rfl

/-- The function of the second knot. -/
theorem hat_one (hP : v i = (p : EReal)) :
    minimumf v (maximumf (subf (broadcast s (Scalar.ofBits .f32 0x40000000#32)) v) (broadcast s (Scalar.ofBits .f32 0x00000000#32))) i
      = ((hat 1 p : ℝ) : EReal) := by
  show min (v i) (max (Ideal.ofBits .f32 0x40000000#32 - v i) (Ideal.ofBits .f32 0x00000000#32)) = _
  rw [hP, lit_2, lit_0, ← EReal.coe_sub, coe_max, coe_min]
  rfl

/-- The function of the last but one knot. -/
theorem hat_fourteen (hP : v i = (p : EReal)) :
    minimumf (maximumf (subf v (broadcast s (Scalar.ofBits .f32 0x41500000#32))) (broadcast s (Scalar.ofBits .f32 0x00000000#32)))
      (subf (broadcast s (Scalar.ofBits .f32 0x41700000#32)) v) i = ((hat 14 p : ℝ) : EReal) := by
  show min (max (v i - Ideal.ofBits .f32 0x41500000#32) (Ideal.ofBits .f32 0x00000000#32)) (Ideal.ofBits .f32 0x41700000#32 - v i) = _
  rw [hP, lit_13, lit_15, lit_0, ← EReal.coe_sub, ← EReal.coe_sub, coe_max, coe_min]
  rfl

/-- The function of the last knot. -/
theorem hat_fifteen (hP : v i = (p : EReal)) :
    maximumf (subf v (broadcast s (Scalar.ofBits .f32 0x41600000#32))) (broadcast s (Scalar.ofBits .f32 0x00000000#32)) i
      = ((hat 15 p : ℝ) : EReal) := by
  show max (v i - Ideal.ofBits .f32 0x41600000#32) (Ideal.ofBits .f32 0x00000000#32) = _
  rw [hP, lit_14, lit_0, ← EReal.coe_sub, coe_max]
  rfl

/-- The position of a real. -/
theorem pos_eq {X : EReal} {x : ℝ} (hX : X = (x : EReal)) :
    (X - Ideal.ofBits .f32 0xC0400000#32) * Ideal.ofBits .f32 0x40200000#32 = ((pos x : ℝ) : EReal) := by
  rw [hX, lit_neg3, lit_5_2, ← EReal.coe_sub, ← EReal.coe_mul]
  congr 1
  unfold pos
  ring

end Scalars

/-! ## The blocks side by side -/

/-- `n` blocks of `w` columns laid side by side, read in block `q` at its column `f`. -/
theorem blocks_at {B w W : ℕ} {xs : List ((s : Shape) × (s.Idx → EReal))} {h : Shape.Concatenates (xs.map (·.1)) ⟨2, ![B, W]⟩ 1}
    (n : ℕ) (hs : xs.map (·.1) = List.replicate n ⟨2, ![B, w]⟩) (r : Fin B) (f : Fin w) (y : ℕ → EReal)
    (hy : ∀ q < n, ∃ x : (⟨2, ![B, w]⟩ : Shape).Idx → EReal, xs[q]? = some ⟨⟨2, ![B, w]⟩, x⟩ ∧ x (ix2 r f) = y q)
    (q : ℕ) (hq : q < n) (k : Fin W) (hk : k.val = f.val + w * q) :
    concatenate ⟨2, ![B, W]⟩ 1 xs h (ix2 r k) = y q := by
  obtain ⟨x, hx, hxy⟩ := hy q hq
  obtain ⟨hl, hx⟩ := List.getElem?_eq_some_iff.1 hx
  refine (concatenate_apply_piece 1 xs h (ix2 r k) q hl _ x hx rfl (w * q) ?_ (ix2 r f) ?_ ?_).trans hxy
  · rw [List.map_take, hs, List.take_replicate, Nat.min_eq_left hq.le, List.map_replicate, List.sum_replicate, smul_eq_mul, Nat.mul_comm]
    rfl
  · intro b hb
    match b with
    | ⟨0, _⟩ => rfl
    | ⟨1, _⟩ => exact absurd rfl hb
  · show w * q + f.val = k.val
    omega

/-- The first layer's basis from the positions `P` of its 128 inputs per row. -/
abbrev basis1 (V : FVec Ideal S1024x100 .f32) : FVec Ideal S1024x2048 .f32 :=
  k0_pay20 (F := Ideal) (k0_pay7 (F := Ideal) V) (k0_pay8 (F := Ideal) V) (k0_pay9 (F := Ideal) V) (k0_pay10 (F := Ideal) V) (k0_pay11 (F := Ideal) V) (k0_pay13 (F := Ideal) (k0_pay12 (F := Ideal) V)) (k0_pay14 (k0_pay7 (F := Ideal) V))
    (k0_pay15 (k0_pay7 (F := Ideal) V)) (k0_pay16 (k0_pay7 (F := Ideal) V)) (k0_pay17 (k0_pay7 (F := Ideal) V)) (k0_pay18 (k0_pay7 (F := Ideal) V)) (k0_pay19 (k0_pay7 (F := Ideal) V))

/-- The first layer's basis holds the hat functions of the positions. -/
theorem basis1_apply (V : FVec Ideal S1024x100 .f32) (r : Fin 1024) (f : Fin 128) (p : ℝ)
    (hP : k0_pay7 (F := Ideal) V (ix2 r f) = (p : EReal)) (q : Fin 16) (k : Fin 2048) (hk : k.val = f.val + 128 * q.val) :
    basis1 V (ix2 r k) = ((hat q.val p : ℝ) : EReal) := by
  unfold basis1 k0_pay20 k0_pay8 k0_pay9 k0_pay10 k0_pay11 k0_pay13 k0_pay12 k0_pay14 k0_pay15 k0_pay16 k0_pay17 k0_pay18 k0_pay19
  generalize k0_pay7 (F := Ideal) V = P at hP ⊢
  refine blocks_at 16 rfl r f (fun q => ((hat q p : ℝ) : EReal)) (fun q hq => ?_) q.val q.isLt k hk
  clear hk
  interval_cases q
  · exact ⟨_, rfl, hat_zero hP⟩
  · exact ⟨_, rfl, hat_one hP⟩
  · exact ⟨_, rfl, hat_mid 2 0x40000000#32 (by exact_mod_cast lit_2) (by norm_num) (by norm_num) hP⟩
  · exact ⟨_, rfl, hat_mid 3 0x40400000#32 (by exact_mod_cast lit_3) (by norm_num) (by norm_num) hP⟩
  · exact ⟨_, rfl, hat_mid 4 0x40800000#32 (by exact_mod_cast lit_4) (by norm_num) (by norm_num) hP⟩
  · exact ⟨_, rfl, hat_mid 5 0x40A00000#32 (by exact_mod_cast lit_5) (by norm_num) (by norm_num) hP⟩
  · exact ⟨_, rfl, hat_mid 6 0x40C00000#32 (by exact_mod_cast lit_6) (by norm_num) (by norm_num) hP⟩
  · exact ⟨_, rfl, hat_mid 7 0x40E00000#32 (by exact_mod_cast lit_7) (by norm_num) (by norm_num) hP⟩
  · exact ⟨_, rfl, hat_mid 8 0x41000000#32 (by exact_mod_cast lit_8) (by norm_num) (by norm_num) hP⟩
  · exact ⟨_, rfl, hat_mid 9 0x41100000#32 (by exact_mod_cast lit_9) (by norm_num) (by norm_num) hP⟩
  · exact ⟨_, rfl, hat_mid 10 0x41200000#32 (by exact_mod_cast lit_10) (by norm_num) (by norm_num) hP⟩
  · exact ⟨_, rfl, hat_mid 11 0x41300000#32 (by exact_mod_cast lit_11) (by norm_num) (by norm_num) hP⟩
  · exact ⟨_, rfl, hat_mid 12 0x41400000#32 (by exact_mod_cast lit_12) (by norm_num) (by norm_num) hP⟩
  · exact ⟨_, rfl, hat_mid 13 0x41500000#32 (by exact_mod_cast lit_13) (by norm_num) (by norm_num) hP⟩
  · exact ⟨_, rfl, hat_fourteen hP⟩
  · exact ⟨_, rfl, hat_fifteen hP⟩

/-- The second layer's basis from the values it is computed from: the blocks of the knots 7 to 15. -/
abbrev basis2 (v2 : FVec Ideal S1x64 .f32) (v124 : FVec Ideal S1024x2048 .f32) (v125 : FVec Ideal S1024x2048 .bf16)
    (v126 : FVec Ideal S2048x128 .bf16) (v130 : FVec Ideal S2048x64 .bf16) : FVec Ideal S1024x576 .f32 :=
  k0_pay29 (F := Ideal) (k0_pay24 (F := Ideal) v2 v124 v125 v126 v130) (k0_pay25 (F := Ideal) v2 v124 v125 v126 v130)
    (k0_pay26 (F := Ideal) v2 v124 v125 v126 v130) (k0_pay27 (F := Ideal) v2 v124 v125 v126 v130) (k0_pay28 (F := Ideal) v2 v124 v125 v126 v130)

/-- The second layer's basis holds the hat functions of the positions. -/
theorem basis2_apply (v2 : FVec Ideal S1x64 .f32) (v124 : FVec Ideal S1024x2048 .f32) (v125 : FVec Ideal S1024x2048 .bf16)
    (v126 : FVec Ideal S2048x128 .bf16) (v130 : FVec Ideal S2048x64 .bf16) (r : Fin 1024) (f : Fin 64) (p : ℝ)
    (hP : k0_pay24 (F := Ideal) v2 v124 v125 v126 v130 (ix2 r f) = (p : EReal)) (q : Fin 9) (k : Fin 576) (hk : k.val = f.val + 64 * q.val) :
    basis2 v2 v124 v125 v126 v130 (ix2 r k) = ((hat (7 + q.val) p : ℝ) : EReal) := by
  unfold basis2 k0_pay29 k0_pay25 k0_pay26 k0_pay27 k0_pay28
  generalize k0_pay24 (F := Ideal) v2 v124 v125 v126 v130 = P at hP ⊢
  refine blocks_at 9 rfl r f (fun q => ((hat (7 + q) p : ℝ) : EReal)) (fun q hq => ?_) q.val q.isLt k hk
  clear hk
  interval_cases q
  · exact ⟨_, rfl, hat_mid 7 0x40E00000#32 (by exact_mod_cast lit_7) (by norm_num) (by norm_num) hP⟩
  · exact ⟨_, rfl, hat_mid 8 0x41000000#32 (by exact_mod_cast lit_8) (by norm_num) (by norm_num) hP⟩
  · exact ⟨_, rfl, hat_mid 9 0x41100000#32 (by exact_mod_cast lit_9) (by norm_num) (by norm_num) hP⟩
  · exact ⟨_, rfl, hat_mid 10 0x41200000#32 (by exact_mod_cast lit_10) (by norm_num) (by norm_num) hP⟩
  · exact ⟨_, rfl, hat_mid 11 0x41300000#32 (by exact_mod_cast lit_11) (by norm_num) (by norm_num) hP⟩
  · exact ⟨_, rfl, hat_mid 12 0x41400000#32 (by exact_mod_cast lit_12) (by norm_num) (by norm_num) hP⟩
  · exact ⟨_, rfl, hat_mid 13 0x41500000#32 (by exact_mod_cast lit_13) (by norm_num) (by norm_num) hP⟩
  · exact ⟨_, rfl, hat_fourteen hP⟩
  · exact ⟨_, rfl, hat_fifteen hP⟩

end Cert.Ker

end
-- ==== Proof.Row.lean ====
/-
  One row of the kernel's result, from the blocks the kernel reads.
-/
module

public import proofs.«01_k».proof.Proof.Basis

@[expose] public section

set_option maxRecDepth 16384

noncomputable section

namespace Cert.Ker

open Cert.KernelIdeal Cert.KernelIdeal.Gen Cert.Spline Idealize.ShloMosaic

/-! ## Sums -/

/-- The spline through the values `C` at the knots, at `x`. -/
def mix (x : ℝ) (C : ℕ → EReal) : EReal := (1 - ((frac x : ℝ) : EReal)) * C (cell x - 1) + ((frac x : ℝ) : EReal) * C (cell x)

/-- The weighted sum of the table's rows is the spline, where the rows summed over hold the two that `x` lies between. -/
theorem sum_hat {N lo : ℕ} (x : ℝ) (C : ℕ → EReal) (h1 : lo + 1 ≤ cell x) (h2 : lo + N = 16) :
    ∑ q : Fin N, ((hat (lo + q.val) (pos x) : ℝ) : EReal) * C (lo + q.val) = mix x C := by
  have h15 := cell_le x
  unfold mix
  rw [← sum_two (N := N) (lo := lo) ((1 - ((frac x : ℝ) : EReal)) * C (cell x - 1)) (((frac x : ℝ) : EReal) * C (cell x)) h1 (by omega)]
  refine Finset.sum_congr rfl fun q _ => ?_
  rw [hat_pos x (lo + q.val) (by omega)]
  split_ifs with c1 c2
  · rw [c1]
  · rw [show lo + q.val = cell x - 1 by omega, EReal.coe_sub, EReal.coe_one]
  · rw [EReal.coe_zero, zero_mul]

/-- A sum over the columns of `n` blocks of width `w`, by the column of the block and the block. -/
theorem sum_blocks {n w K : ℕ} (hK : K = n * w) (g : Fin K → EReal) (G : Fin w → Fin n → EReal)
    (h : ∀ (q : Fin n) (f : Fin w) (k : Fin K), k.val = f.val + w * q.val → g k = G f q) : ∑ k, g k = ∑ f, ∑ q, G f q := by
  subst hK
  rw [Finset.sum_comm, ← Fintype.sum_prod_type', ← Equiv.sum_comp finProdFinEquiv]
  exact Finset.sum_congr rfl fun qf _ => h qf.1 qf.2 _ rfl

/-- A real multiple of a number that is not the positive infinity is not changed by adding the multiple of that number less itself. -/
theorem mul_add_rest (a : ℝ) {c : EReal} (hc : c ≠ ⊤) : (a : EReal) * c + (a : EReal) * (c - c) = (a : EReal) * c := by
  induction c using EReal.rec with
  | top => exact absurd rfl hc
  | coe c => rw [← EReal.coe_sub, sub_self, EReal.coe_zero, mul_zero, add_zero]
  | bot =>
    rw [EReal.bot_sub]
    rcases lt_trichotomy a 0 with h | h | h
    · rw [EReal.coe_mul_bot_of_neg h, EReal.top_add_top]
    · rw [h, EReal.coe_zero, zero_mul, add_zero]
    · rw [EReal.coe_mul_bot_of_pos h, EReal.bot_add]

/-- The three products of a layer: the basis with the table, the basis with the table less itself, and the basis less itself
    with any table. They add up to the splines' values. -/
theorem three_products {n w K lo : ℕ} (hK : K = n * w) (a c1 c2 c3 : Fin K → EReal) (x : Fin w → ℝ) (C : Fin w → ℕ → EReal)
    (ha : ∀ (q : Fin n) (f : Fin w) (k : Fin K), k.val = f.val + w * q.val → a k = ((hat (lo + q.val) (pos (x f)) : ℝ) : EReal))
    (h1 : ∀ (q : Fin n) (f : Fin w) (k : Fin K), k.val = f.val + w * q.val → c1 k = C f (lo + q.val))
    (hc : ∀ k, c1 k ≠ ⊤) (h2 : ∀ k, c2 k = c1 k - c1 k) (hlo : ∀ f, lo + 1 ≤ cell (x f)) (hn : lo + n = 16) :
    ∑ k, a k * c1 k + ∑ k, a k * c2 k + ∑ k, (a k - a k) * c3 k = ∑ f, mix (x f) (C f) := by
  have hreal : ∀ k : Fin K, ∃ b : ℝ, a k = (b : EReal) := by
    subst hK
    intro k
    exact ⟨_, ha (finProdFinEquiv.symm k).1 (finProdFinEquiv.symm k).2 k (congrArg Fin.val (finProdFinEquiv.apply_symm_apply k)).symm⟩
  have e3 : ∑ k, (a k - a k) * c3 k = 0 := Finset.sum_eq_zero fun k _ => by
    obtain ⟨b, hb⟩ := hreal k
    rw [hb, ← EReal.coe_sub, sub_self, EReal.coe_zero, zero_mul]
  have e1 : ∀ k, a k * c1 k + a k * c2 k = a k * c1 k := by
    intro k
    obtain ⟨b, hb⟩ := hreal k
    rw [hb, h2, mul_add_rest b (hc k)]
  rw [e3, add_zero, ← Finset.sum_add_distrib, Finset.sum_congr rfl fun k _ => e1 k,
    sum_blocks hK _ (fun f q => ((hat (lo + q.val) (pos (x f)) : ℝ) : EReal) * C f (lo + q.val)) fun q f k hk => by
      rw [ha q f k hk, h1 q f k hk]]
  exact Finset.sum_congr rfl fun f _ => sum_hat (x f) (C f) (hlo f) hn

/-! ## The first layer -/

section Layers

variable (V : FVec Ideal S1024x100 .f32) (T1 : FVec Ideal S2048x128 .bf16) (H1 : FVec Ideal S2048x64 .bf16)
  (T2 : FVec Ideal S576x128 .bf16) (H2 : FVec Ideal S576x64 .bf16) (M : FVec Ideal S1x256 .f32) (r : Fin 1024)

/-- The position of an entry of the row, the columns past the hundredth counting as 0. -/
theorem pos1 (x : Fin 128 → ℝ) (hx : ∀ f : Fin 100, V (ix2 r f) = ((x ⟨f.val, by omega⟩ : ℝ) : EReal))
    (hz : ∀ f : Fin 128, 100 ≤ f.val → x f = 0) (f : Fin 128) :
    k0_pay7 (F := Ideal) V (ix2 r f) = ((pos (x f) : ℝ) : EReal) := by
  unfold k0_pay7
  pointwise
  refine pos_eq ?_
  split
  · next h => exact hx ⟨f.val, h⟩
  · next h =>
    rw [hz f (by omega)]
    norm_num

/-- The second layer's position at `o`, from the first layer's sum. -/
theorem pos2 (x : Fin 128 → ℝ) (hx : ∀ f : Fin 100, V (ix2 r f) = ((x ⟨f.val, by omega⟩ : ℝ) : EReal))
    (hz : ∀ f : Fin 128, 100 ≤ f.val → x f = 0) (o : Fin 64) (C : Fin 128 → ℕ → EReal)
    (h1 : ∀ (q : Fin 16) (f : Fin 128) (k : Fin 2048), k.val = f.val + 128 * q.val → T1 (ix2 k ⟨o.val, by omega⟩) = C f q.val)
    (hc : ∀ k, (T1 (ix2 k ⟨o.val, by omega⟩) : EReal) ≠ ⊤)
    (h2 : ∀ k, T1 (ix2 k ⟨64 + o.val, by omega⟩) = (T1 (ix2 k ⟨o.val, by omega⟩) : EReal) - T1 (ix2 k ⟨o.val, by omega⟩)) (h : ℝ)
    (hh : max ((∑ f, mix (x f) (C f)) + M (ix2 0 ⟨o.val, by omega⟩)) 0 = (h : EReal)) :
    k0_pay24 (F := Ideal) (k0_pay3 (F := Ideal) M) (subf (basis1 V) (extf .f32 (truncf .bf16 (basis1 V))))
      (truncf .bf16 (extf .f32 (truncf .bf16 (basis1 V)))) T1 H1 (ix2 r o) = ((pos h : ℝ) : EReal) := by
  have ha := fun (q : Fin 16) (f : Fin 128) (k : Fin 2048) (hk : k.val = f.val + 128 * q.val) =>
    basis1_apply V r f (pos (x f)) (pos1 V r x hx hz f) q k hk
  have hm : k0_pay3 (F := Ideal) M (ix2 0 o) = M (ix2 0 ⟨o.val, by omega⟩) := by
    unfold k0_pay3 k0_pay2
    pointwise
  generalize k0_pay3 (F := Ideal) M = m at hm ⊢
  generalize basis1 V = A at ha ⊢
  unfold k0_pay24
  pointwise
  refine pos_eq ?_
  have key := three_products (n := 16) (w := 128) (K := 2048) (lo := 0) (by norm_num) (fun k => A (ix2 r k))
    (fun k => T1 (ix2 k ⟨o.val, by omega⟩)) (fun k => T1 (ix2 k ⟨64 + o.val, by omega⟩)) (fun k => H1 (ix2 k o)) x C
    (fun q f k hk => by rw [ha q f k hk, Nat.zero_add]) (fun q f k hk => by rw [h1 q f k hk, Nat.zero_add]) hc h2
    (fun f => by have := one_le_cell (x f); omega) (by norm_num)
  rw [key, hm, hh]

/-- The row's result from the second layer's positions. -/
theorem row2 (h : Fin 64 → ℝ) (h0 : ∀ f, 0 ≤ h f) (A : FVec Ideal S1024x576 .f32)
    (hA : ∀ (q : Fin 9) (f : Fin 64) (k : Fin 576), k.val = f.val + 64 * q.val → A (ix2 r k) = ((hat (7 + q.val) (pos (h f)) : ℝ) : EReal))
    (C : Fin 64 → Fin 64 → ℕ → EReal)
    (h1 : ∀ (o : Fin 64) (q : Fin 9) (f : Fin 64) (k : Fin 576), k.val = f.val + 64 * q.val →
      T2 (ix2 k ⟨o.val, by omega⟩) = C o f (7 + q.val))
    (hc : ∀ (o : Fin 64) k, (T2 (ix2 k ⟨o.val, by omega⟩) : EReal) ≠ ⊤)
    (h2 : ∀ (o : Fin 64) k, T2 (ix2 k ⟨64 + o.val, by omega⟩) = (T2 (ix2 k ⟨o.val, by omega⟩) : EReal) - T2 (ix2 k ⟨o.val, by omega⟩)) :
    k0_pay1 (F := Ideal) (k0_pay4 (F := Ideal) M) (k0_pay5 (F := Ideal) M) (k0_pay6 (F := Ideal) M)
      (subf A (extf .f32 (truncf .bf16 A))) (truncf .bf16 (extf .f32 (truncf .bf16 A))) T2 H2 (ix2 r 0)
      = (∑ o : Fin 64, max ((∑ f, mix (h f) (C o f)) + M (ix2 0 ⟨64 + o.val, by omega⟩)) 0 * M (ix2 0 ⟨128 + o.val, by omega⟩))
        + M (ix2 0 ⟨192, by omega⟩) := by
  have hm4 : ∀ o, k0_pay4 (F := Ideal) M (ix2 0 o) = M (ix2 0 ⟨64 + o.val, by omega⟩) := by
    intro o
    unfold k0_pay4 k0_pay2
    pointwise
  have hm5 : ∀ o, k0_pay5 (F := Ideal) M (ix2 0 o) = M (ix2 0 ⟨128 + o.val, by omega⟩) := by
    intro o
    unfold k0_pay5 k0_pay2
    pointwise
  have hm6 : k0_pay6 (F := Ideal) M = M (ix2 0 ⟨192, by omega⟩) := by
    unfold k0_pay6 k0_pay2
    pointwise
  rw [hm6]
  generalize k0_pay4 (F := Ideal) M = m4 at hm4 ⊢
  generalize k0_pay5 (F := Ideal) M = m5 at hm5 ⊢
  generalize M (ix2 0 ⟨192, by omega⟩) = m6
  unfold k0_pay1
  pointwise
  refine congrArg (· + m6) (Finset.sum_congr rfl fun o _ => ?_)
  have key := three_products (n := 9) (w := 64) (K := 576) (lo := 7) (by norm_num) (fun k => A (ix2 r k))
    (fun k => T2 (ix2 k ⟨o.val, by omega⟩)) (fun k => T2 (ix2 k ⟨64 + o.val, by omega⟩)) (fun k => H2 (ix2 k o)) h (C o) hA (h1 o) (hc o) (h2 o)
    (fun f => eight_le_cell (h0 f)) (by norm_num)
  rw [key, hm4, hm5]

/-- The row's result from the blocks: both layers and the output. `C1` and `C2` are the layers' tables, `x` the row of the
    input, `h` the first layer's result. -/
theorem row (x : Fin 128 → ℝ) (hx : ∀ f : Fin 100, V (ix2 r f) = ((x ⟨f.val, by omega⟩ : ℝ) : EReal))
    (hz : ∀ f : Fin 128, 100 ≤ f.val → x f = 0) (C1 : Fin 64 → Fin 128 → ℕ → EReal) (C2 : Fin 64 → Fin 64 → ℕ → EReal)
    (h11 : ∀ (o : Fin 64) (q : Fin 16) (f : Fin 128) (k : Fin 2048), k.val = f.val + 128 * q.val →
      T1 (ix2 k ⟨o.val, by omega⟩) = C1 o f q.val)
    (hc1 : ∀ (o : Fin 64) k, (T1 (ix2 k ⟨o.val, by omega⟩) : EReal) ≠ ⊤)
    (h12 : ∀ (o : Fin 64) k, T1 (ix2 k ⟨64 + o.val, by omega⟩) = (T1 (ix2 k ⟨o.val, by omega⟩) : EReal) - T1 (ix2 k ⟨o.val, by omega⟩))
    (h21 : ∀ (o : Fin 64) (q : Fin 9) (f : Fin 64) (k : Fin 576), k.val = f.val + 64 * q.val →
      T2 (ix2 k ⟨o.val, by omega⟩) = C2 o f (7 + q.val))
    (hc2 : ∀ (o : Fin 64) k, (T2 (ix2 k ⟨o.val, by omega⟩) : EReal) ≠ ⊤)
    (h22 : ∀ (o : Fin 64) k, T2 (ix2 k ⟨64 + o.val, by omega⟩) = (T2 (ix2 k ⟨o.val, by omega⟩) : EReal) - T2 (ix2 k ⟨o.val, by omega⟩)) (h : Fin 64 → ℝ) (h0 : ∀ f, 0 ≤ h f)
    (hh : ∀ o : Fin 64, max ((∑ f, mix (x f) (C1 o f)) + M (ix2 0 ⟨o.val, by omega⟩)) 0 = (h o : EReal)) :
    out0_6 (F := Ideal) V T1 H1 T2 H2 M (ix2 r 0)
      = (∑ o : Fin 64, max ((∑ f, mix (h f) (C2 o f)) + M (ix2 0 ⟨64 + o.val, by omega⟩)) 0 * M (ix2 0 ⟨128 + o.val, by omega⟩))
        + M (ix2 0 ⟨192, by omega⟩) := by
  have hp := fun o => pos2 V T1 H1 M r x hx hz o (C1 o) (h11 o) (hc1 o) (h12 o) (h o) (hh o)
  have hA := fun (q : Fin 9) (f : Fin 64) (k : Fin 576) (hk : k.val = f.val + 64 * q.val) =>
    basis2_apply _ _ _ _ _ r f _ (hp f) q k hk
  unfold_out out0_6
  frame_out
  unfold k0_pay31 k0_pay32 k0_pay30 k0_pay22 k0_pay23 k0_pay21
  exact row2 T2 H2 M r h h0 _ hA C2 h21 hc2 h22

end Layers

end Cert.Ker

end
-- ==== Proof.Host.lean ====
/-
  What the kernel's grid reads: the argument arrays as the program lays them out before the region, at an index.
-/
module

public import proofs.«01_k».proof.Proof.Row
public import Idealize.ShloMosaic.Lib.Claim

@[expose] public section

set_option maxRecDepth 16384

noncomputable section

namespace Cert.Ker

open Cert.KernelIdeal Cert.KernelIdeal.Gen Cert.Spline Idealize.ShloMosaic Idealize.ShloMosaic.TcCoe Idealize.SL.Sem

/-- The first layer's table, one row for each knot and feature, features padded with zeros to 128. -/
def flat1 (a : FVec Ideal S100x16x64 .f32) : FVec Ideal S2048x64 .f32 :=
  shapeCast S2048x64 (pad S16x128x64 ![0, 0, 0] ![0, 28, 0] ![0, 0, 0]
    (transpose S16x100x64 [1, 0, 2] a transposes_S100x16x64_S16x100x64_1_0_2) (sitofp .f32 (constantI S_ 32 0#32))
    pads_S16x100x64_S16x128x64_000_0280_000 h_S_) shapeCasts_S16x128x64_S2048x64

/-- The second layer's table, one row for each knot from the eighth on and each feature. -/
def flat2 (a : FVec Ideal S64x16x64 .f32) : FVec Ideal S576x64 .f32 :=
  shapeCast S576x64 (extractStridedSlice S9x64x64 ![7, 0, 0]
    (transpose S16x64x64 [1, 0, 2] a transposes_S64x16x64_S16x64x64_1_0_2) slices_S16x64x64_S9x64x64_7_0_0) shapeCasts_S9x64x64_S576x64

/-- The first table beside what rounding left of it. -/
def pair1 (T : FVec Ideal S2048x64 .f32) : FVec Ideal S2048x128 .bf16 :=
  truncf .bf16 (concatenate S2048x128 1 [⟨S2048x64, extf .f32 (truncf .bf16 T bitsLt_bf16_f32) bitsLt_bf16_f32⟩,
    ⟨S2048x64, subf T (extf .f32 (truncf .bf16 T bitsLt_bf16_f32) bitsLt_bf16_f32)⟩] concatenates_S2048x64_S2048x64_S2048x128_d1) bitsLt_bf16_f32

/-- The second table beside what rounding left of it. -/
def pair2 (T : FVec Ideal S576x64 .f32) : FVec Ideal S576x128 .bf16 :=
  truncf .bf16 (concatenate S576x128 1 [⟨S576x64, extf .f32 (truncf .bf16 T bitsLt_bf16_f32) bitsLt_bf16_f32⟩,
    ⟨S576x64, subf T (extf .f32 (truncf .bf16 T bitsLt_bf16_f32) bitsLt_bf16_f32)⟩] concatenates_S576x64_S576x64_S576x128_d1) bitsLt_bf16_f32

/-- The two bias rows, the last layer's weights and its bias, side by side. -/
def packed (b1 b2 : FVec Ideal S64 .f32) (w : FVec Ideal S64x1 .f32) (b : FVec Ideal S1 .f32) : FVec Ideal S1x256 .f32 :=
  concatenate S1x256 1 [⟨S1x64, shapeCast S1x64 b1 shapeCasts_S64_S1x64⟩, ⟨S1x64, shapeCast S1x64 b2 shapeCasts_S64_S1x64⟩,
    ⟨S1x64, extf .f32 (truncf .bf16 (shapeCast S1x64 w shapeCasts_S64x1_S1x64) bitsLt_bf16_f32) bitsLt_bf16_f32⟩,
    ⟨S1x64, pad S1x64 ![0, 0] ![0, 63] ![0, 0] (shapeCast S1x1 b shapeCasts_S1_S1x1) (sitofp .f32 (constantI S_ 32 0#32)) pads_S1x1_S1x64_000_0630 h_S_⟩]
    concatenates_S1x64_S1x64_S1x64_S1x64_S1x256_d1

theorem pair1_lo (T : FVec Ideal S2048x64 .f32) (k : Fin 2048) (o : Fin 64) : pair1 T (ix2 k ⟨o.val, by omega⟩) = T (ix2 k o) := by
  unfold pair1; pointwise

theorem pair1_hi (T : FVec Ideal S2048x64 .f32) (k : Fin 2048) (o : Fin 64) :
    pair1 T (ix2 k ⟨64 + o.val, by omega⟩) = T (ix2 k o) - T (ix2 k o) := by
  unfold pair1; pointwise

theorem pair2_lo (T : FVec Ideal S576x64 .f32) (k : Fin 576) (o : Fin 64) : pair2 T (ix2 k ⟨o.val, by omega⟩) = T (ix2 k o) := by
  unfold pair2; pointwise

theorem pair2_hi (T : FVec Ideal S576x64 .f32) (k : Fin 576) (o : Fin 64) :
    pair2 T (ix2 k ⟨64 + o.val, by omega⟩) = T (ix2 k o) - T (ix2 k o) := by
  unfold pair2; pointwise

theorem flat1_apply (a : FVec Ideal S100x16x64 .f32) (o : Fin 64) (q : Fin 16) (f : Fin 128) (k : Fin 2048) (hk : k.val = f.val + 128 * q.val) :
    flat1 a (ix2 k o) = if h : f.val < 100 then a (ix3 ⟨f.val, h⟩ q o) else 0 := by
  unfold flat1; pointwise
  have h1 : k.val / 128 = q.val := by omega
  have h2 : k.val % 128 = f.val := by omega
  simp only [h1, h2]
  by_cases h : f.val < 100
  · rw [dif_pos ⟨q.isLt, h⟩, dif_pos h]
  · rw [dif_neg fun e => h e.2, dif_neg h]
    show (((0#32 : BitVec 32).toInt : ℝ) : EReal) = 0
    simp

theorem flat2_apply (a : FVec Ideal S64x16x64 .f32) (o : Fin 64) (q : Fin 9) (f : Fin 64) (k : Fin 576) (hk : k.val = f.val + 64 * q.val) :
    flat2 a (ix2 k o) = a (ix3 f ⟨7 + q.val, by omega⟩ o) := by
  unfold flat2; pointwise
  have h1 : k.val / 64 = q.val := by omega
  have h2 : k.val % 64 = f.val := by omega
  simp only [h1, h2]

section
variable (b1 b2 : FVec Ideal S64 .f32) (w : FVec Ideal S64x1 .f32) (b : FVec Ideal S1 .f32)

theorem packed_0 (o : Fin 64) : packed b1 b2 w b (ix2 0 ⟨o.val, by omega⟩) = b1 (ix1 o) := by
  unfold packed; pointwise

theorem packed_1 (o : Fin 64) : packed b1 b2 w b (ix2 0 ⟨64 + o.val, by omega⟩) = b2 (ix1 o) := by
  unfold packed; pointwise

theorem packed_2 (o : Fin 64) : packed b1 b2 w b (ix2 0 ⟨128 + o.val, by omega⟩) = w (ix2 o 0) := by
  unfold packed; pointwise
  rw [dif_neg (by omega), dif_neg (by omega), dif_pos (by omega)]
  congr 2; apply Fin.ext; show 128 + o.val - 64 - 64 = o.val; omega

theorem packed_3 : packed b1 b2 w b (ix2 0 ⟨192, by omega⟩) = b (ix1 0) := by
  unfold packed; pointwise
end

variable (m : (ℓ : Loc nD τ sig) → Buf (Elt Ideal) ℓ) (c : Dev nD)

theorem V13 : V m c main_call0_v13 = pair1 (flat1 (m (c, main_arg1))) := by
  entry_read; rfl

theorem V15 : V m c main_call0_v15 = pair2 (flat2 (m (c, main_arg3))) := by
  entry_read; rfl

theorem V25 : V m c main_call0_v25 = packed (m (c, main_arg2)) (m (c, main_arg4)) (m (c, main_arg5)) (m (c, main_arg6)) := by
  unfold V hostOps0
  after_results_simp
  dsimp only [Matrix.cons_val]
  rfl

end Cert.Ker

end
-- ==== Proof.Lookup.lean ====
/-
  Operations of a table lookup on the host, read at an index: the number of set bits along the last axis of a rank-3
  mask, and a gather of rows from a rank-3 table at pairs of indices.
-/
module

public import Idealize.ShloMosaic.Lib.ValueIdx
public import Idealize.ShloMosaic.Lib.ValueIdxCore
public import Idealize.ShloMosaic.Lib.StableHlo.Predicate
public import Idealize.ShloMosaic.Lib.Routing.OpsSearch
public import Idealize.ShloMosaic.Lib.Routing.OpsPair

@[expose] public section

noncomputable section

namespace Cert.Lookup

open Idealize.ShloMosaic Idealize.ShloMosaic.ValueIdx

/-- Adding up the bits of `[a, b, N]` along the last axis counts them: entry `(p, q)` of the sum holds the number of
    `k < N` whose bit `(p, q, k)` is set. -/
theorem reduce_count_last {N a b : ℕ} (hN : N < 2 ^ 32) (msk : IVec (⟨3, ![a, b, N]⟩ : Shape) 1) (hw : 1 < 32)
    (h' : (⟨3, ![a, b, N]⟩ : Shape).ReducesTo [2] ⟨2, ![a, b]⟩)
    (hu : 0 < (⟨0, ![]⟩ : Shape).numel) (p : Fin a) (q : Fin b) (Q : ℕ → Prop) [DecidablePred Q]
    (hQ : ∀ k : Fin N, msk (ix3 p q k) = 1#1 ↔ Q k.val) :
    Host.reduce IntOp.addi (extui 32 msk hw) (constantI (⟨0, ![]⟩ : Shape) 32 0#32) h' hu (ix2 p q) = BitVec.ofNat 32 (Nat.count Q N) := by
  have h : (⟨3, ![a, b, N]⟩ : Shape).Reduces [2] ⟨2, ![a, b]⟩ := ⟨h'.1, Nat.two_pos, h'.2⟩
  have hlift : ∀ k : Fin N, h.lift (ix2 p q) k = ix3 p q k := by
    intro k
    funext c
    match c with
    | ⟨0, _⟩ => rfl
    | ⟨1, _⟩ => rfl
    | ⟨2, _⟩ => rfl
  have hval : ∀ k : Fin N, ((extui 32 msk hw ∘ h.lift (ix2 p q)) k).toNat = if Q k.val then 1 else 0 := by
    intro k
    refine (congrArg (fun i => (extui 32 msk hw i).toNat) (hlift k)).trans ?_
    refine (StableHlo.Predicate.toNat_setWidth_bit (msk (ix3 p q k))).trans ?_
    simp only [hQ k]
  have hsum : ∑ k : Fin N, ((extui 32 msk hw ∘ h.lift (ix2 p q)) k).toNat = Nat.count Q N := by
    rw [Finset.sum_congr rfl fun k _ => hval k, ← Routing.card_filter_fin N Q, Finset.card_filter]
  rw [Host.reduce_eq_fold_single IntOp.addi _ _ h' h hu]
  apply BitVec.eq_of_toNat_eq
  have hc : Nat.count Q N < 2 ^ 32 := lt_of_le_of_lt (Nat.count_le _) hN
  refine (StableHlo.Predicate.toNat_fold_addi _ _ (hsum.trans_lt hc)).trans ?_
  refine hsum.trans ?_
  rw [BitVec.toNat_ofNat, Nat.mod_eq_of_lt hc]

/-- Rows of a `[F, G, C]` table looked up at `[R, F', 2]` pairs of indices: entry `(r, f, o)` of the result is the table
    at the pair of `(r, f)`, each index read signed and clamped into its axis, and at `o`. -/
theorem gather_rows_apply {F G C R F' w : ℕ} (hF : 0 < F) (hG : 0 < G)
    (d : GatherDims ⟨3, ![F, G, C]⟩ ⟨3, ![R, F', 2]⟩ ⟨3, ![R, F', C]⟩)
    (hoff : d.offsetDims = [2]) (hcoll : d.collapsedSliceDims = [0, 1]) (hob : d.operandBatchingDims = [])
    (hsb : d.startIndicesBatchingDims = []) (hsim : d.startIndexMap = [0, 1]) (hivd : d.indexVectorDim = 2)
    (hss : d.sliceSizes = ![1, 1, C])
    {α : Type} (x : (⟨3, ![F, G, C]⟩ : Shape).Idx → α) (idx : IVec ⟨3, ![R, F', 2]⟩ w) (r : Fin R) (f : Fin F') (o : Fin C) :
    Host.gather d x idx (ix3 r f o)
      = x (ix3 ⟨min (idx (ix3 r f 0)).toInt.toNat (F - 1), by omega⟩ ⟨min (idx (ix3 r f 1)).toInt.toNat (G - 1), by omega⟩ o) := by
  obtain ⟨od, cd, obd, sbd, sim, ivd, ss, wf⟩ := d
  dsimp only at hoff hcoll hob hsb hsim hivd hss
  subst hoff hcoll hob hsb hsim hivd hss
  have hsi : ∀ (a : Fin 3) (ha : a ∈ ([0, 1] : List (Fin 3))),
      GatherDims.siIdx (⟨[2], [0, 1], [], [], [0, 1], 2, ![1, 1, C], wf⟩ : GatherDims ⟨3, ![F, G, C]⟩ ⟨3, ![R, F', 2]⟩ ⟨3, ![R, F', C]⟩)
        (ix3 r f o) ⟨List.idxOf a [0, 1], List.idxOf_lt_length_iff.2 ha⟩ = ix3 r f ⟨List.idxOf a [0, 1], List.idxOf_lt_length_iff.2 ha⟩ := by
    intro a ha
    funext b
    refine Fin.ext ?_
    match b with
    | ⟨0, _⟩ => rfl
    | ⟨1, _⟩ => rfl
    | ⟨2, _⟩ => rfl
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (by simp))]
    unfold GatherDims.start
    rw [dif_pos (by simp)]
    exact congrArg (fun i => min (idx i).toInt.toNat (F - 1)) (hsi 0 (by simp))
  | ⟨1, _⟩ =>
    rw [GatherDims.offCoord_eq_zero _ _ _ (fun h => ((GatherDims.mem_sKept _ _).mp h).1 (by simp))]
    unfold GatherDims.start
    rw [dif_pos (by simp)]
    exact congrArg (fun i => min (idx i).toInt.toNat (G - 1)) (hsi 1 (by simp))
  | ⟨2, _⟩ =>
    unfold GatherDims.start
    rw [dif_neg (by simp)]
    unfold GatherDims.offCoord
    rw [dif_pos (by rw [GatherDims.mem_sKept]; simp)]
    simp only [Nat.zero_add]
    rfl

end Cert.Lookup

end
-- ==== Proof.Ref.lean ====
/-
  The reference, read at an index: which table rows and weights each layer of the spline network takes.
-/
module

public import proofs.«01_k».proof.Proof.Gen.ReferenceIdeal.Read
public import proofs.«01_k».proof.Proof.Hat
public import proofs.«01_k».proof.Proof.Consts
public import proofs.«01_k».proof.Proof.Lookup
public import Idealize.ShloMosaic.Lib.Pointwise

@[expose] public section

set_option maxRecDepth 16384

noncomputable section

namespace Cert.Ref

open Cert.ReferenceIdeal Cert.ReferenceIdeal.Gen Cert.ReferenceIdeal.Read Cert.Spline Idealize.ShloMosaic

/-! ## Indices, words and quotients -/

theorem idx1 {a : ℕ} {i : (⟨1, ![a]⟩ : Shape).Idx} {p : Fin a} (h0 : i 0 = p) : i = ix1 p := by
  funext c; match c with | ⟨0, _⟩ => exact h0
theorem idx2 {a b : ℕ} {i : (⟨2, ![a, b]⟩ : Shape).Idx} {p : Fin a} {q : Fin b} (h0 : i 0 = p) (h1 : i 1 = q) : i = ix2 p q := by
  funext c; match c with | ⟨0, _⟩ => exact h0 | ⟨1, _⟩ => exact h1
theorem idx3 {a b d : ℕ} {i : (⟨3, ![a, b, d]⟩ : Shape).Idx} {p : Fin a} {q : Fin b} {s : Fin d}
    (h0 : i 0 = p) (h1 : i 1 = q) (h2 : i 2 = s) : i = ix3 p q s := by
  funext c; match c with | ⟨0, _⟩ => exact h0 | ⟨1, _⟩ => exact h1 | ⟨2, _⟩ => exact h2

/-- The quotient of two reals, the divisor not zero. -/
theorem div_real (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

/-- A word below 2³¹ read as a signed integer. -/
theorem toInt_word {n : ℕ} (h : n < 2 ^ 31) : (BitVec.ofNat 32 n).toInt = n :=
  StableHlo.Predicate.toInt_ofNat_small n h

/-- A table index that is not negative is not wrapped. -/
theorem wrap_word {n : ℕ} (h : n < 2 ^ 31) (w : BitVec 32) :
    Scalar.select (IntOp.cmpi .slt (BitVec.ofNat 32 n) 0#32) w (BitVec.ofNat 32 n) = BitVec.ofNat 32 n :=
  Routing.wrap_of_lt _ _ (by rw [BitVec.toNat_ofNat, Nat.mod_eq_of_lt (by omega)]; omega)

/-- One less than a positive word. -/
theorem pred_word {n : ℕ} (h : 1 ≤ n) (h' : n < 2 ^ 31) : IntOp.subi (BitVec.ofNat 32 n) 1#32 = BitVec.ofNat 32 (n - 1) := by
  obtain ⟨m, rfl⟩ : ∃ m, n = m + 1 := ⟨n - 1, by omega⟩
  show BitVec.ofNat 32 (m + 1) - 1#32 = _
  rw [BitVec.ofNat_add]
  simp

/-- The weight of the upper row, as the lookup computes it from the two knots. -/
theorem frac_div (x : ℝ) : Ideal.div ((x : EReal) - ((knot (cell x - 1) : ℝ) : EReal))
    (max (((knot (cell x) : ℝ) : EReal) - ((knot (cell x - 1) : ℝ) : EReal)) (Ideal.ofBits .f32 0x322BCC77#32)) = ((frac x : ℝ) : EReal) := by
  rw [lit_floor, ← EReal.coe_sub, ← EReal.coe_sub, knot_sub _ (one_le_cell x), max_eq_left (by
    rw [EReal.coe_le_coe_iff]; norm_num), div_real _ _ (by norm_num), frac_eq]

/-- A coordinate below `N` read as the host's gather reads it: signed, clamped into an axis of `N`. -/
theorem idx_word {n N : ℕ} (h : n < N) (hN : N < 2 ^ 31) : min (BitVec.ofNat 32 n).toInt.toNat (N - 1) = n := by
  rw [toInt_word (by omega)]
  omega

/-- The row that a feature and a row number, joined to a pair, look up in a layer's table. -/
theorem row_at {B F : ℕ} (hF : F < 2 ^ 31) (x : (⟨3, ![F, 16, 64]⟩ : Shape).Idx → EReal) (a b : IVec ⟨3, ![B, F, 1]⟩ 32)
    (hcat : Shape.Concatenates [⟨3, ![B, F, 1]⟩, ⟨3, ![B, F, 1]⟩] ⟨3, ![B, F, 2]⟩ 2)
    (d : GatherDims ⟨3, ![F, 16, 64]⟩ ⟨3, ![B, F, 2]⟩ ⟨3, ![B, F, 64]⟩)
    (hoff : d.offsetDims = [2]) (hcoll : d.collapsedSliceDims = [0, 1]) (hob : d.operandBatchingDims = [])
    (hsb : d.startIndicesBatchingDims = []) (hsim : d.startIndexMap = [0, 1]) (hivd : d.indexVectorDim = 2)
    (hss : d.sliceSizes = ![1, 1, 64]) (r : Fin B) (f : Fin F) (o : Fin 64) (n : Fin 16)
    (ha : a (ix3 r f 0) = BitVec.ofNat 32 f.val) (hb : b (ix3 r f 0) = BitVec.ofNat 32 n.val) :
    Host.gather d x (concatenate ⟨3, ![B, F, 2]⟩ 2 [⟨⟨3, ![B, F, 1]⟩, a⟩, ⟨⟨3, ![B, F, 1]⟩, b⟩] hcat) (ix3 r f o) = x (ix3 f n o) := by
  refine (Lookup.gather_rows_apply (Fin.pos f) (by norm_num) d hoff hcoll hob hsb hsim hivd hss x _ r f o).trans ?_
  refine congrArg x (idx3 (Fin.ext ?_) (Fin.ext ?_) rfl)
  · refine Eq.trans ?_ (idx_word f.isLt hF)
    refine congrArg (fun w : BitVec 32 => min w.toInt.toNat (F - 1)) (Eq.trans ?_ ha)
    pointwise
    exact (dif_pos Nat.one_pos).trans (congrArg a (idx3 rfl rfl rfl))
  · refine Eq.trans ?_ (idx_word n.isLt (by norm_num))
    refine congrArg (fun w : BitVec 32 => min w.toInt.toNat (16 - 1)) (Eq.trans ?_ hb)
    pointwise
    exact (dif_neg (lt_irrefl 1)).trans (congrArg b (idx3 rfl rfl rfl))

/-- The table of knots the reference computes. -/
theorem knots (k : Fin 16) : val_main_v0 (F := Ideal) (ix1 k) = ((knot k.val : ℝ) : EReal) := by
  have hs : (FloatOps.sitofp FTy.f32 (BitVec.ofNat 32 k.val) : Ideal .f32) = ((k.val : ℝ) : EReal) := by
    show (((BitVec.ofNat 32 k.val).toInt : ℝ) : EReal) = _
    rw [toInt_word (by omega)]
    push_cast
    rfl
  pointwise [val_main_v0, val_main_call0_v15, val_main_call0_v11, val_main_call0_v10, val_main_call0_v9,
    val_main_call0_v8, val_main_call0_cst_1, val_main_call0_v7, val_main_call0_v6, val_main_call0_v5, val_main_call0_v4,
    val_main_call0_v14, val_main_call0_v13, val_main_call0_v12, val_main_call0_v16, val_main_call0_v1, val_main_call0_v0,
    val_main_cst, val_main_cst_0, val_main_call0_cst_0, id_eq]
  rw [hs, lit_15, lit_3, lit_neg3, div_real _ _ (by norm_num)]
  unfold knot
  split_ifs with h
  · rw [← EReal.coe_one, ← EReal.coe_sub, ← EReal.coe_mul, ← EReal.coe_mul, ← EReal.coe_add]
    congr 1
    ring
  · have : k.val = 15 := by omega
    rw [this]
    norm_num

section Layer1

variable (x0 : (⟨S16384x100, .f32⟩ : BufTy).Contents (Elt Ideal)) (x1 : (⟨S100x16x64, .f32⟩ : BufTy).Contents (Elt Ideal))
  (x2 : (⟨S64, .f32⟩ : BufTy).Contents (Elt Ideal)) (r : Fin 16384) (f : Fin 100) (o : Fin 64) (x : ℝ)

/-- The comparison of knot `k` with entry `(r, f)` of the input. -/
theorem mask1 (hx : x0 (ix2 r f) = (x : EReal)) (k : Fin 16) :
    val_main_v5 (F := Ideal) x0 (ix3 r f k) = 1#1 ↔ knot k.val < x := by
  rw [val_main_v5_apply, val_main_v3_apply, val_main_v4_apply, val_main_v1_apply, val_main_v2_apply,
    idx1 (i := idx_main_v1 _) (p := k) rfl, idx2 (i := idx_main_v2 _) (p := r) (q := f) rfl rfl, knots, hx]
  show BitVec.ofBool (decide (((knot k.val : ℝ) : EReal) < (x : EReal))) = 1#1 ↔ _
  rw [← EReal.coe_lt_coe_iff]
  by_cases h : ((knot k.val : ℝ) : EReal) < (x : EReal) <;> simp [h]

/-- The upper knot's number at entry `(r, f)`: the clipped count of the knots below. -/
theorem cell1 (hx : x0 (ix2 r f) = (x : EReal)) : val_main_v8 (F := Ideal) x0 (ix2 r f) = BitVec.ofNat 32 (cell x) := by
  classical
  have h7 : val_main_v7 (F := Ideal) x0 (ix2 r f) = BitVec.ofNat 32 (Nat.count (fun k => knot k < x) 16) :=
    Lookup.reduce_count_last (by norm_num) (val_main_v5 (F := Ideal) x0) _ _ _ r f (fun k => knot k < x) (mask1 x0 r f x hx)
  rw [val_main_v8_apply, val_main_call1_v2_apply, h7, val_main_call1_v4_apply, val_main_call1_v1_apply]
  exact (Routing.clip_word (lo := 1) (hi := 15) (lt_of_le_of_lt (Nat.count_le _) (by norm_num)) (by norm_num) (by norm_num)).trans
    (congrArg _ (clip_count x _ fun k _ => Iff.rfl))

/-- The lower knot's number. -/
theorem lower1 (hx : x0 (ix2 r f) = (x : EReal)) : val_main_v10 (F := Ideal) x0 (ix2 r f) = BitVec.ofNat 32 (cell x - 1) := by
  rw [val_main_v10_apply, cell1 x0 r f x hx, val_main_v9_apply]
  exact pred_word (one_le_cell x) (lt_of_le_of_lt (cell_le x) (by norm_num))

/-- The lower knot. -/
theorem g0_1 (hx : x0 (ix2 r f) = (x : EReal)) : val_main_v17 (F := Ideal) x0 (ix2 r f) = ((knot (cell x - 1) : ℝ) : EReal) := by
  have hc := cell_le x
  have hi : val_main_v16 (F := Ideal) x0 (ValueIdx.takeIdx (ix2 r f)) = BitVec.ofNat 32 (cell x - 1) := by
    rw [val_main_v16_apply, idx2 (i := idx_main_v16 _) (p := r) (q := f) rfl rfl, val_main_v15_apply, val_main_v12_apply,
      lower1 x0 r f x hx, val_main_v11_apply]
    exact wrap_word (by omega) _
  refine (ValueIdx.gather_take_apply (by norm_num) _ (val_main_v0 (F := Ideal)) (val_main_v16 (F := Ideal) x0) (ix2 r f)).trans ?_
  rw [← ix1_eq_valueIdx, knots]
  simp only [hi]
  rw [idx_word (show cell x - 1 < 16 by omega) (by norm_num)]

/-- The upper knot. -/
theorem g1_1 (hx : x0 (ix2 r f) = (x : EReal)) : val_main_v24 (F := Ideal) x0 (ix2 r f) = ((knot (cell x) : ℝ) : EReal) := by
  have hc := cell_le x
  have hi : val_main_v23 (F := Ideal) x0 (ValueIdx.takeIdx (ix2 r f)) = BitVec.ofNat 32 (cell x) := by
    rw [val_main_v23_apply, idx2 (i := idx_main_v23 _) (p := r) (q := f) rfl rfl, val_main_v22_apply, val_main_v19_apply,
      cell1 x0 r f x hx, val_main_v18_apply]
    exact wrap_word (by omega) _
  refine (ValueIdx.gather_take_apply (by norm_num) _ (val_main_v0 (F := Ideal)) (val_main_v23 (F := Ideal) x0) (ix2 r f)).trans ?_
  rw [← ix1_eq_valueIdx, knots]
  simp only [hi]
  rw [idx_word (show cell x < 16 by omega) (by norm_num)]

/-- The weight of the upper row. -/
theorem frac1 (hx : x0 (ix2 r f) = (x : EReal)) : val_main_v29 (F := Ideal) x0 (ix2 r f) = ((frac x : ℝ) : EReal) := by
  rw [val_main_v29_apply, val_main_v28_apply, val_main_v27_apply, val_main_v25_apply, g0_1 x0 r f x hx, g1_1 x0 r f x hx,
    val_main_v26_apply, hx]
  exact frac_div x

/-- The feature's number. -/
theorem feat1 : val_main_v36 (F := Ideal) (ix2 r f) = BitVec.ofNat 32 f.val := by
  rw [val_main_v36_apply, val_main_v35_apply]
  rfl

/-- The lower row of the table. -/
theorem c0_1 (hx : x0 (ix2 r f) = (x : EReal)) :
    val_main_v52 (F := Ideal) x0 x1 (ix3 r f o) = x1 (ix3 f ⟨cell x - 1, by have := cell_le x; omega⟩ o) := by
  have hc := cell_le x
  refine row_at (by norm_num) x1 (val_main_v49 (F := Ideal)) (val_main_v50 (F := Ideal) x0) _
    gather_S100x16x64_S16384x100x2_S16384x100x64_2_01_n_n_01_2_1164 rfl rfl rfl rfl rfl rfl rfl r f o ⟨cell x - 1, by omega⟩ ?_ ?_
  · rw [val_main_v49_apply, idx2 (i := idx_main_v49 _) (p := r) (q := f) rfl rfl, val_main_v43_apply, val_main_v40_apply,
      feat1 r f, val_main_v39_apply]
    exact wrap_word (by omega) _
  · rw [val_main_v50_apply, idx2 (i := idx_main_v50 _) (p := r) (q := f) rfl rfl, val_main_v48_apply, val_main_v45_apply,
      val_main_v38_apply, cell1 x0 r f x hx, val_main_v37_apply, val_main_v44_apply]
    refine (congrArg (fun w => Scalar.select (IntOp.cmpi .slt w 0#32) _ w) (pred_word (one_le_cell x) (by omega))).trans ?_
    exact wrap_word (by omega) _

/-- The upper row of the table. -/
theorem c1_1 (hx : x0 (ix2 r f) = (x : EReal)) :
    val_main_v66 (F := Ideal) x0 x1 (ix3 r f o) = x1 (ix3 f ⟨cell x, by have := cell_le x; omega⟩ o) := by
  have hc := cell_le x
  refine row_at (by norm_num) x1 (val_main_v63 (F := Ideal)) (val_main_v64 (F := Ideal) x0) _
    gather_S100x16x64_S16384x100x2_S16384x100x64_2_01_n_n_01_2_1164 rfl rfl rfl rfl rfl rfl rfl r f o ⟨cell x, by omega⟩ ?_ ?_
  · rw [val_main_v63_apply, idx2 (i := idx_main_v63 _) (p := r) (q := f) rfl rfl, val_main_v57_apply, val_main_v54_apply,
      feat1 r f, val_main_v53_apply]
    exact wrap_word (by omega) _
  · rw [val_main_v64_apply, idx2 (i := idx_main_v64 _) (p := r) (q := f) rfl rfl, val_main_v62_apply, val_main_v59_apply,
      cell1 x0 r f x hx, val_main_v58_apply]
    exact wrap_word (by omega) _

/-- The contribution of feature `f` to output `o`: the two rows with their weights. -/
theorem term1 (hx : x0 (ix2 r f) = (x : EReal)) :
    val_main_v71 (F := Ideal) x0 x1 (ix3 r f o)
      = (1 - ((frac x : ℝ) : EReal)) * x1 (ix3 f ⟨cell x - 1, by have := cell_le x; omega⟩ o)
        + ((frac x : ℝ) : EReal) * x1 (ix3 f ⟨cell x, by have := cell_le x; omega⟩ o) := by
  rw [val_main_v71_apply, val_main_v68_apply, val_main_v70_apply, c0_1 x0 x1 r f o x hx, c1_1 x0 x1 r f o x hx,
    val_main_v67_apply, val_main_v69_apply, val_main_v32_apply, val_main_v33_apply,
    idx2 (i := idx_main_v32 _) (p := r) (q := f) rfl rfl, idx2 (i := idx_main_v33 _) (p := r) (q := f) rfl rfl,
    val_main_v31_apply, val_main_v30_apply, frac1 x0 r f x hx]
  have h1 : val_main_cst_9 (F := Ideal) (idx_main_v30 (ix2 r f)) = 1 := by
    rw [val_main_cst_9_apply]
    exact lit_1
  rw [h1]
  rfl

end Layer1

/-- The first layer's result at `(r, o)`: the features' contributions, the bias, cut off below at 0. -/
theorem layer1 (x0 : (⟨S16384x100, .f32⟩ : BufTy).Contents (Elt Ideal)) (x1 : (⟨S100x16x64, .f32⟩ : BufTy).Contents (Elt Ideal))
    (x2 : (⟨S64, .f32⟩ : BufTy).Contents (Elt Ideal)) (r : Fin 16384) (o : Fin 64) (x : Fin 100 → ℝ)
    (hx : ∀ f, x0 (ix2 r f) = (x f : EReal)) :
    val_main_v76 (F := Ideal) x0 x1 x2 (ix2 r o)
      = max ((∑ f : Fin 100, ((1 - ((frac (x f) : ℝ) : EReal)) * x1 (ix3 f ⟨cell (x f) - 1, by have := cell_le (x f); omega⟩ o)
          + ((frac (x f) : ℝ) : EReal) * x1 (ix3 f ⟨cell (x f), by have := cell_le (x f); omega⟩ o))) + x2 (ix1 o)) 0 := by
  rw [val_main_v76_apply, val_main_v75_apply, val_main_v72_apply, val_main_v74_apply, val_main_v73_apply,
    idx1 (i := idx_main_v73 _) (p := o) rfl, val_main_call2_v0_apply]
  rw [Finset.sum_congr rfl fun f _ => (congrArg _ (idx3 (i := idx_main_v72 _ f) (p := r) (q := f) (s := o) rfl rfl rfl)).trans
    (term1 x0 x1 r f o (x f) (hx f))]
  have h0 : val_main_cst_19 (F := Ideal) (Shape.Idx.first h_S_) = 0 := by
    rw [val_main_cst_19_apply]
    exact Ideal.ofBits_zero_f32
  have h0' : ∀ i, val_main_call2_cst (F := Ideal) i = 0 := by
    intro i
    rw [val_main_call2_cst_apply]
    exact Ideal.ofBits_zero_f32
  rw [h0, h0', zero_add]
  rfl

end Cert.Ref

end
-- ==== Proof.Ref2.lean ====
/-
  The reference's second layer and its output, read at an index.
-/
module

public import proofs.«01_k».proof.Proof.Ref

@[expose] public section

set_option maxRecDepth 16384

noncomputable section

namespace Cert.Ref

open Cert.ReferenceIdeal Cert.ReferenceIdeal.Gen Cert.ReferenceIdeal.Read Cert.Spline Idealize.ShloMosaic

section Layer2

variable (x0 : (⟨S16384x100, .f32⟩ : BufTy).Contents (Elt Ideal)) (x1 : (⟨S100x16x64, .f32⟩ : BufTy).Contents (Elt Ideal))
  (x2 : (⟨S64, .f32⟩ : BufTy).Contents (Elt Ideal)) (x3 : (⟨S64x16x64, .f32⟩ : BufTy).Contents (Elt Ideal))
  (r : Fin 16384) (f : Fin 64) (o : Fin 64) (x : ℝ)

/-- The comparison of knot `k` with entry `(r, f)` of the first layer's result. -/
theorem mask2 (hx : val_main_v76 (F := Ideal) x0 x1 x2 (ix2 r f) = (x : EReal)) (k : Fin 16) :
    val_main_v81 (F := Ideal) x0 x1 x2 (ix3 r f k) = 1#1 ↔ knot k.val < x := by
  rw [val_main_v81_apply, val_main_v79_apply, val_main_v80_apply, val_main_v77_apply, val_main_v78_apply,
    idx1 (i := idx_main_v77 _) (p := k) rfl, idx2 (i := idx_main_v78 _) (p := r) (q := f) rfl rfl, knots, hx]
  show BitVec.ofBool (decide (((knot k.val : ℝ) : EReal) < (x : EReal))) = 1#1 ↔ _
  rw [← EReal.coe_lt_coe_iff]
  by_cases h : ((knot k.val : ℝ) : EReal) < (x : EReal) <;> simp [h]

/-- The upper knot's number at entry `(r, f)`: the clipped count of the knots below. -/
theorem cell2 (hx : val_main_v76 (F := Ideal) x0 x1 x2 (ix2 r f) = (x : EReal)) : val_main_v84 (F := Ideal) x0 x1 x2 (ix2 r f) = BitVec.ofNat 32 (cell x) := by
  classical
  have h7 : val_main_v83 (F := Ideal) x0 x1 x2 (ix2 r f) = BitVec.ofNat 32 (Nat.count (fun k => knot k < x) 16) :=
    Lookup.reduce_count_last (by norm_num) (val_main_v81 (F := Ideal) x0 x1 x2) _ _ _ r f (fun k => knot k < x) (mask2 x0 x1 x2 r f x hx)
  rw [val_main_v84_apply, val_main_call3_v2_apply, h7, val_main_call3_v4_apply, val_main_call3_v1_apply]
  exact (Routing.clip_word (lo := 1) (hi := 15) (lt_of_le_of_lt (Nat.count_le _) (by norm_num)) (by norm_num) (by norm_num)).trans
    (congrArg _ (clip_count x _ fun k _ => Iff.rfl))

/-- The lower knot's number. -/
theorem lower2 (hx : val_main_v76 (F := Ideal) x0 x1 x2 (ix2 r f) = (x : EReal)) : val_main_v86 (F := Ideal) x0 x1 x2 (ix2 r f) = BitVec.ofNat 32 (cell x - 1) := by
  rw [val_main_v86_apply, cell2 x0 x1 x2 r f x hx, val_main_v85_apply]
  exact pred_word (one_le_cell x) (lt_of_le_of_lt (cell_le x) (by norm_num))

/-- The lower knot. -/
theorem g0_2 (hx : val_main_v76 (F := Ideal) x0 x1 x2 (ix2 r f) = (x : EReal)) : val_main_v93 (F := Ideal) x0 x1 x2 (ix2 r f) = ((knot (cell x - 1) : ℝ) : EReal) := by
  have hc := cell_le x
  have hi : val_main_v92 (F := Ideal) x0 x1 x2 (ValueIdx.takeIdx (ix2 r f)) = BitVec.ofNat 32 (cell x - 1) := by
    rw [val_main_v92_apply, idx2 (i := idx_main_v92 _) (p := r) (q := f) rfl rfl, val_main_v91_apply, val_main_v88_apply,
      lower2 x0 x1 x2 r f x hx, val_main_v87_apply]
    exact wrap_word (by omega) _
  refine (ValueIdx.gather_take_apply (by norm_num) _ (val_main_v0 (F := Ideal)) (val_main_v92 (F := Ideal) x0 x1 x2) (ix2 r f)).trans ?_
  rw [← ix1_eq_valueIdx, knots]
  simp only [hi]
  rw [idx_word (show cell x - 1 < 16 by omega) (by norm_num)]

/-- The upper knot. -/
theorem g1_2 (hx : val_main_v76 (F := Ideal) x0 x1 x2 (ix2 r f) = (x : EReal)) : val_main_v100 (F := Ideal) x0 x1 x2 (ix2 r f) = ((knot (cell x) : ℝ) : EReal) := by
  have hc := cell_le x
  have hi : val_main_v99 (F := Ideal) x0 x1 x2 (ValueIdx.takeIdx (ix2 r f)) = BitVec.ofNat 32 (cell x) := by
    rw [val_main_v99_apply, idx2 (i := idx_main_v99 _) (p := r) (q := f) rfl rfl, val_main_v98_apply, val_main_v95_apply,
      cell2 x0 x1 x2 r f x hx, val_main_v94_apply]
    exact wrap_word (by omega) _
  refine (ValueIdx.gather_take_apply (by norm_num) _ (val_main_v0 (F := Ideal)) (val_main_v99 (F := Ideal) x0 x1 x2) (ix2 r f)).trans ?_
  rw [← ix1_eq_valueIdx, knots]
  simp only [hi]
  rw [idx_word (show cell x < 16 by omega) (by norm_num)]

/-- The weight of the upper row. -/
theorem frac2 (hx : val_main_v76 (F := Ideal) x0 x1 x2 (ix2 r f) = (x : EReal)) : val_main_v105 (F := Ideal) x0 x1 x2 (ix2 r f) = ((frac x : ℝ) : EReal) := by
  rw [val_main_v105_apply, val_main_v104_apply, val_main_v103_apply, val_main_v101_apply, g0_2 x0 x1 x2 r f x hx, g1_2 x0 x1 x2 r f x hx,
    val_main_v102_apply, hx]
  exact frac_div x

/-- The feature's number. -/
theorem feat2 : val_main_v112 (F := Ideal) (ix2 r f) = BitVec.ofNat 32 f.val := by
  rw [val_main_v112_apply, val_main_v111_apply]
  rfl

/-- The lower row of the table. -/
theorem c0_2 (hx : val_main_v76 (F := Ideal) x0 x1 x2 (ix2 r f) = (x : EReal)) :
    val_main_v128 (F := Ideal) x0 x1 x2 x3 (ix3 r f o) = x3 (ix3 f ⟨cell x - 1, by have := cell_le x; omega⟩ o) := by
  have hc := cell_le x
  refine row_at (by norm_num) x3 (val_main_v125 (F := Ideal)) (val_main_v126 (F := Ideal) x0 x1 x2) _
    gather_S64x16x64_S16384x64x2_S16384x64x64_2_01_n_n_01_2_1164 rfl rfl rfl rfl rfl rfl rfl r f o ⟨cell x - 1, by omega⟩ ?_ ?_
  · rw [val_main_v125_apply, idx2 (i := idx_main_v125 _) (p := r) (q := f) rfl rfl, val_main_v119_apply, val_main_v116_apply,
      feat2 r f, val_main_v115_apply]
    exact wrap_word (by omega) _
  · rw [val_main_v126_apply, idx2 (i := idx_main_v126 _) (p := r) (q := f) rfl rfl, val_main_v124_apply, val_main_v121_apply,
      val_main_v114_apply, cell2 x0 x1 x2 r f x hx, val_main_v113_apply, val_main_v120_apply]
    refine (congrArg (fun w => Scalar.select (IntOp.cmpi .slt w 0#32) _ w) (pred_word (one_le_cell x) (by omega))).trans ?_
    exact wrap_word (by omega) _

/-- The upper row of the table. -/
theorem c1_2 (hx : val_main_v76 (F := Ideal) x0 x1 x2 (ix2 r f) = (x : EReal)) :
    val_main_v142 (F := Ideal) x0 x1 x2 x3 (ix3 r f o) = x3 (ix3 f ⟨cell x, by have := cell_le x; omega⟩ o) := by
  have hc := cell_le x
  refine row_at (by norm_num) x3 (val_main_v139 (F := Ideal)) (val_main_v140 (F := Ideal) x0 x1 x2) _
    gather_S64x16x64_S16384x64x2_S16384x64x64_2_01_n_n_01_2_1164 rfl rfl rfl rfl rfl rfl rfl r f o ⟨cell x, by omega⟩ ?_ ?_
  · rw [val_main_v139_apply, idx2 (i := idx_main_v139 _) (p := r) (q := f) rfl rfl, val_main_v133_apply, val_main_v130_apply,
      feat2 r f, val_main_v129_apply]
    exact wrap_word (by omega) _
  · rw [val_main_v140_apply, idx2 (i := idx_main_v140 _) (p := r) (q := f) rfl rfl, val_main_v138_apply, val_main_v135_apply,
      cell2 x0 x1 x2 r f x hx, val_main_v134_apply]
    exact wrap_word (by omega) _

/-- The contribution of feature `f` to output `o`: the two rows with their weights. -/
theorem term2 (hx : val_main_v76 (F := Ideal) x0 x1 x2 (ix2 r f) = (x : EReal)) :
    val_main_v147 (F := Ideal) x0 x1 x2 x3 (ix3 r f o)
      = (1 - ((frac x : ℝ) : EReal)) * x3 (ix3 f ⟨cell x - 1, by have := cell_le x; omega⟩ o)
        + ((frac x : ℝ) : EReal) * x3 (ix3 f ⟨cell x, by have := cell_le x; omega⟩ o) := by
  rw [val_main_v147_apply, val_main_v144_apply, val_main_v146_apply, c0_2 x0 x1 x2 x3 r f o x hx, c1_2 x0 x1 x2 x3 r f o x hx,
    val_main_v143_apply, val_main_v145_apply, val_main_v108_apply, val_main_v109_apply,
    idx2 (i := idx_main_v108 _) (p := r) (q := f) rfl rfl, idx2 (i := idx_main_v109 _) (p := r) (q := f) rfl rfl,
    val_main_v107_apply, val_main_v106_apply, frac2 x0 x1 x2 r f x hx]
  have h1 : val_main_cst_29 (F := Ideal) (idx_main_v106 (ix2 r f)) = 1 := by
    rw [val_main_cst_29_apply]
    exact lit_1
  rw [h1]
  rfl

end Layer2

/-- The second layer's result at `(r, o)`. -/
theorem layer2 (x0 : (⟨S16384x100, .f32⟩ : BufTy).Contents (Elt Ideal)) (x1 : (⟨S100x16x64, .f32⟩ : BufTy).Contents (Elt Ideal))
    (x2 : (⟨S64, .f32⟩ : BufTy).Contents (Elt Ideal)) (x3 : (⟨S64x16x64, .f32⟩ : BufTy).Contents (Elt Ideal))
    (x4 : (⟨S64, .f32⟩ : BufTy).Contents (Elt Ideal)) (r : Fin 16384) (o : Fin 64) (x : Fin 64 → ℝ)
    (hx : ∀ f, val_main_v76 (F := Ideal) x0 x1 x2 (ix2 r f) = (x f : EReal)) :
    val_main_v152 (F := Ideal) x0 x1 x2 x3 x4 (ix2 r o)
      = max ((∑ f : Fin 64, ((1 - ((frac (x f) : ℝ) : EReal)) * x3 (ix3 f ⟨cell (x f) - 1, by have := cell_le (x f); omega⟩ o)
          + ((frac (x f) : ℝ) : EReal) * x3 (ix3 f ⟨cell (x f), by have := cell_le (x f); omega⟩ o))) + x4 (ix1 o)) 0 := by
  rw [val_main_v152_apply, val_main_v151_apply, val_main_v148_apply, val_main_v150_apply, val_main_v149_apply,
    idx1 (i := idx_main_v149 _) (p := o) rfl, val_main_call4_v0_apply]
  rw [Finset.sum_congr rfl fun f _ => (congrArg _ (idx3 (i := idx_main_v148 _ f) (p := r) (q := f) (s := o) rfl rfl rfl)).trans
    (term2 x0 x1 x2 x3 r f o (x f) (hx f))]
  have h0 : val_main_cst_39 (F := Ideal) (Shape.Idx.first h_S_) = 0 := by
    rw [val_main_cst_39_apply]
    exact Ideal.ofBits_zero_f32
  have h0' : ∀ i, val_main_call4_cst (F := Ideal) i = 0 := by
    intro i
    rw [val_main_call4_cst_apply]
    exact Ideal.ofBits_zero_f32
  rw [h0, h0', zero_add]
  rfl

/-- The reference's result at `(r, 0)`: the second layer times the weights, plus the output's bias. -/
theorem output (x0 : (⟨S16384x100, .f32⟩ : BufTy).Contents (Elt Ideal)) (x1 : (⟨S100x16x64, .f32⟩ : BufTy).Contents (Elt Ideal))
    (x2 : (⟨S64, .f32⟩ : BufTy).Contents (Elt Ideal)) (x3 : (⟨S64x16x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (r : Fin 16384) :
    val_main_v156 (F := Ideal) x0 x1 x2 x3 x4 x5 x6 (ix2 r 0)
      = (∑ o : Fin 64, val_main_v152 (F := Ideal) x0 x1 x2 x3 x4 (ix2 r o) * x5 (ix2 o 0)) + x6 (ix1 0) := by
  rw [val_main_v156_apply, val_main_v153_apply, val_main_v155_apply, val_main_v154_apply,
    idx1 (i := idx_main_v154 _) (p := 0) rfl]
  rw [Finset.sum_congr rfl fun o _ => congrArg₂ (· * ·)
    (congrArg (val_main_v152 (F := Ideal) x0 x1 x2 x3 x4) (idx2 (i := lidx_main_v153 _ o) (p := r) (q := o) rfl rfl))
    (congrArg x5 (idx2 (i := ridx_main_v153 _ o) (p := o) (q := 0) rfl rfl))]
  rfl

end Cert.Ref

end
-- ==== Proof.Equal.lean ====
/-
  One row of the kernel's block is the reference's entry at that row.
-/
module

public import proofs.«01_k».proof.Proof.Host
public import proofs.«01_k».proof.Proof.Ref2

@[expose] public section

set_option maxRecDepth 16384

noncomputable section

namespace Cert.Ker

open Cert.KernelIdeal Cert.KernelIdeal.Gen Cert.Spline Idealize.ShloMosaic

/-- The value that is not infinite, as a real. -/
theorem coe_real {a : EReal} (h : a ≠ ⊤ ∧ a ≠ ⊥) : a = ((a.toReal : ℝ) : EReal) := (EReal.coe_toReal h.1 h.2).symm

/-- A sum over 128 features that are zero past the hundredth is the sum over 100. -/
theorem sum_features (g : Fin 128 → EReal) (hg : ∀ f : Fin 128, 100 ≤ f.val → g f = 0) :
    ∑ f : Fin 128, g f = ∑ f : Fin 100, g ⟨f.val, by omega⟩ := by
  have h := Fin.sum_univ_add (a := 100) (b := 28) g
  have hz : ∑ i : Fin 28, g (Fin.natAdd 100 i) = 0 := Finset.sum_eq_zero fun i _ => hg _ (by simp)
  rw [hz, add_zero] at h
  exact h

/-- Row `f` of the padded first table as a function of the knot's number. -/
def rows1 (a : FVec Ideal S100x16x64 .f32) (o : Fin 64) (f : Fin 128) (q : ℕ) : EReal :=
  if h : f.val < 100 ∧ q < 16 then a (ix3 ⟨f.val, h.1⟩ ⟨q, h.2⟩ o) else 0

/-- Row `f` of the second table as a function of the knot's number. -/
def rows2 (a : FVec Ideal S64x16x64 .f32) (o : Fin 64) (f : Fin 64) (q : ℕ) : EReal :=
  if h : q < 16 then a (ix3 f ⟨q, h⟩ o) else 0

theorem flat1_rows (a : FVec Ideal S100x16x64 .f32) (o : Fin 64) (q : Fin 16) (f : Fin 128) (k : Fin 2048)
    (hk : k.val = f.val + 128 * q.val) : flat1 a (ix2 k o) = rows1 a o f q.val := by
  rw [flat1_apply a o q f k hk]
  unfold rows1
  by_cases h : f.val < 100
  · rw [dif_pos h, dif_pos ⟨h, q.isLt⟩]
  · rw [dif_neg h, dif_neg fun e => h e.1]

theorem flat2_rows (a : FVec Ideal S64x16x64 .f32) (o : Fin 64) (q : Fin 9) (f : Fin 64) (k : Fin 576)
    (hk : k.val = f.val + 64 * q.val) : flat2 a (ix2 k o) = rows2 a o f (7 + q.val) := by
  rw [flat2_apply a o q f k hk]
  unfold rows2
  rw [dif_pos (by omega)]

/-- What is asked of the arguments: every entry of `x` and of the first table is finite, and no first-layer bias and no
    entry of the second table from the eighth knot on is the positive infinity. -/
structure InRange (a0 : FVec Ideal S16384x100 .f32) (a1 : FVec Ideal S100x16x64 .f32) (a2 : FVec Ideal S64 .f32)
    (a3 : FVec Ideal S64x16x64 .f32) : Prop where
  x : ∀ r f, (a0 (ix2 r f) : EReal) ≠ ⊤ ∧ (a0 (ix2 r f) : EReal) ≠ ⊥
  table1 : ∀ f q o, (a1 (ix3 f q o) : EReal) ≠ ⊤ ∧ (a1 (ix3 f q o) : EReal) ≠ ⊥
  bias1 : ∀ o, (a2 (ix1 o) : EReal) ≠ ⊤
  table2 : ∀ (f : Fin 64) (q : Fin 16) (o : Fin 64), 7 ≤ q.val → (a3 (ix3 f q o) : EReal) ≠ ⊤

section
variable (a0 : FVec Ideal S16384x100 .f32) (a1 : FVec Ideal S100x16x64 .f32) (a2 : FVec Ideal S64 .f32)
  (a3 : FVec Ideal S64x16x64 .f32) (a4 : FVec Ideal S64 .f32) (a5 : FVec Ideal S64x1 .f32) (a6 : FVec Ideal S1 .f32)
  (h0 : ∀ r f, (a0 (ix2 r f) : EReal) ≠ ⊤ ∧ (a0 (ix2 r f) : EReal) ≠ ⊥)
  (h1 : ∀ f q o, (a1 (ix3 f q o) : EReal) ≠ ⊤ ∧ (a1 (ix3 f q o) : EReal) ≠ ⊥)
  (h2 : ∀ o, (a2 (ix1 o) : EReal) ≠ ⊤)
  (h3 : ∀ (f : Fin 64) (q : Fin 16) (o : Fin 64), 7 ≤ q.val → (a3 (ix3 f q o) : EReal) ≠ ⊤)

/-- Row `R` of the first argument, as reals, padded with zeros to 128 features. -/
def feat (R : Fin 16384) (f : Fin 128) : ℝ := if h : f.val < 100 then EReal.toReal (a0 (ix2 R ⟨f.val, h⟩)) else 0

/-- The first layer's output at row `R`, as reals. -/
def hidden (R : Fin 16384) (o : Fin 64) : ℝ :=
  (max ((∑ f, mix (feat a0 R f) (rows1 a1 o f)) + a2 (ix1 o)) 0).toReal

include h1 in
/-- A feature's term of the first layer is not the positive infinity. -/
theorem term_ne_top (R : Fin 16384) (o : Fin 64) (f : Fin 128) : mix (feat a0 R f) (rows1 a1 o f) ≠ ⊤ := by
  have hr : ∀ q, ∃ b : ℝ, rows1 a1 o f q = (b : EReal) := by
    intro q
    unfold rows1
    split_ifs with h
    · exact ⟨_, coe_real (h1 _ _ _)⟩
    · exact ⟨0, rfl⟩
  obtain ⟨b, hb⟩ := hr (cell (feat a0 R f) - 1)
  obtain ⟨d, hd⟩ := hr (cell (feat a0 R f))
  unfold mix
  rw [hb, hd, ← EReal.coe_one, ← EReal.coe_sub, ← EReal.coe_mul, ← EReal.coe_mul, ← EReal.coe_add]
  exact EReal.coe_ne_top _

include h1 h2 in
theorem hidden_eq (R : Fin 16384) (o : Fin 64) :
    max ((∑ f, mix (feat a0 R f) (rows1 a1 o f)) + a2 (ix1 o)) 0 = ((hidden a0 a1 a2 R o : ℝ) : EReal) := by
  unfold hidden
  refine coe_real ⟨?_, ?_⟩
  · exact ((max_lt (EReal.add_lt_top (Finset.sum_induction _ (fun s : EReal => s ≠ ⊤) (fun _ _ => EReal.add_ne_top) EReal.zero_ne_top
      fun f _ => term_ne_top a0 a1 h1 R o f) (h2 o)) EReal.zero_lt_top)).ne
  · exact (lt_of_lt_of_le EReal.bot_lt_zero (le_max_right _ _)).ne'

theorem hidden_nonneg (R : Fin 16384) (o : Fin 64) : 0 ≤ hidden a0 a1 a2 R o :=
  EReal.toReal_nonneg (le_max_right _ _)

include h0 in
theorem feat_eq (R : Fin 16384) (f : Fin 100) : a0 (ix2 R f) = ((feat a0 R ⟨f.val, by omega⟩ : ℝ) : EReal) := by
  unfold feat
  rw [dif_pos f.isLt]
  exact coe_real (h0 _ _)

include h0 h1 h2 in
/-- The reference's first layer is `hidden`. -/
theorem ref_hidden (R : Fin 16384) (o : Fin 64) :
    Cert.ReferenceIdeal.Read.val_main_v76 (F := Ideal) a0 a1 a2 (ix2 R o) = ((hidden a0 a1 a2 R o : ℝ) : EReal) := by
  rw [← hidden_eq a0 a1 a2 h1 h2 R o, Cert.Ref.layer1 a0 a1 a2 R o (fun f => feat a0 R ⟨f.val, by omega⟩) (feat_eq a0 h0 R),
    sum_features (fun f => mix (feat a0 R f) (rows1 a1 o f)) ?_]
  · congr 2
    refine Finset.sum_congr rfl fun f _ => ?_
    have := cell_le (feat a0 R ⟨f.val, by omega⟩)
    unfold mix rows1
    rw [dif_pos ⟨f.isLt, by omega⟩, dif_pos ⟨f.isLt, by omega⟩]
  · intro f hf
    unfold mix rows1
    rw [dif_neg (by omega), dif_neg (by omega), mul_zero, mul_zero, add_zero]

include h0 h1 h2 h3 in
/-- Where a block's row `r` holds row `R` of the first argument, the kernel's entry at `r` is the reference's at `R`. -/
theorem block_row (V : FVec Ideal S1024x100 .f32) (H1 : S2048x64.Idx → EReal) (H2 : S576x64.Idx → EReal) (r : Fin 1024) (R : Fin 16384)
    (hV : ∀ f, V (ix2 r f) = a0 (ix2 R f)) :
    out0_6 (F := Ideal) V (pair1 (flat1 a1)) H1 (pair2 (flat2 a3)) H2 (packed a2 a4 a5 a6) (ix2 r 0)
      = Cert.ReferenceIdeal.Read.val_main_v156 (F := Ideal) a0 a1 a2 a3 a4 a5 a6 (ix2 R 0) := by
  have key := row V (pair1 (flat1 a1)) H1 (pair2 (flat2 a3)) H2 (packed a2 a4 a5 a6) r (feat a0 R)
    (fun f => (hV f).trans (feat_eq a0 h0 R f))
    (fun f hf => by unfold feat; rw [dif_neg (by omega)])
    (rows1 a1) (rows2 a3)
    (fun o q f k hk => (pair1_lo _ k o).trans (flat1_rows a1 o q f k hk))
    (fun o k => by
      rw [pair1_lo, flat1_apply a1 o ⟨k.val / 128, by omega⟩ ⟨k.val % 128, by omega⟩ k (by simp only; omega)]
      split_ifs
      · exact (h1 _ _ _).1
      · exact EReal.zero_ne_top)
    (fun o k => by rw [pair1_hi, pair1_lo])
    (fun o q f k hk => (pair2_lo _ k o).trans (flat2_rows a3 o q f k hk))
    (fun o k => by
      rw [pair2_lo, flat2_apply a3 o ⟨k.val / 64, by omega⟩ ⟨k.val % 64, by omega⟩ k (by simp only; omega)]
      exact h3 _ _ _ (by simp))
    (fun o k => by rw [pair2_hi, pair2_lo])
    (hidden a0 a1 a2 R) (hidden_nonneg a0 a1 a2 R)
    (fun o => by rw [packed_0]; exact hidden_eq a0 a1 a2 h1 h2 R o)
  rw [key, packed_3, Cert.Ref.output]
  refine congrArg₂ (fun a b : EReal => a + b) (Finset.sum_congr rfl fun o _ => ?_) rfl
  rw [packed_1, packed_2, Cert.Ref.layer2 a0 a1 a2 a3 a4 R o (hidden a0 a1 a2 R) (ref_hidden a0 a1 a2 h0 h1 h2 R)]
  refine congrArg (fun s : EReal => max (s + a4 (ix1 o)) 0 * a5 (ix2 o 0)) (Finset.sum_congr rfl fun f _ => ?_)
  have := cell_le (hidden a0 a1 a2 R f)
  unfold mix rows2
  rw [dif_pos (by omega), dif_pos (by omega)]
end

end Cert.Ker

end
-- ==== Proof.Final.lean ====
/-
  The kernel's result array is the reference's, block by block.
-/
module

public import proofs.«01_k».proof.Proof.Equal
public import proofs.«01_k».proof.Proof.Gen.KernelIdeal.Value
public import Idealize.ShloMosaic.Lib.Pipeline.ValueKit

@[expose] public section

set_option maxRecDepth 16384

noncomputable section

namespace Cert.Ker

open Cert.KernelIdeal Cert.KernelIdeal.Gen Idealize.ShloMosaic Idealize.ShloMosaic.TcCoe Idealize.SL.Sem

variable (m : (ℓ : Loc nD τ sig) → Buf (Elt Ideal) ℓ) (c : Dev nD)

/-- Which block each window reads at a grid point: the first window and the result move down, the others stand still. -/
theorem idx : ∀ t : Fin cfg0.N, win0_0.index t = ![t.val, 0] ∧ win0_1.index t = ![0, 0] ∧ win0_3.index t = ![0, 0]
    ∧ win0_5.index t = ![0, 0] ∧ win0_6.index t = ![t.val, 0] :=
  (by decide +kernel : ∀ t : Fin grid0.N, win0_0.index t = ![t.val, 0] ∧ win0_1.index t = ![0, 0] ∧ win0_3.index t = ![0, 0]
    ∧ win0_5.index t = ![0, 0] ∧ win0_6.index t = ![t.val, 0])

/-- The first window's block: 1024 rows of the first argument. -/
theorem blk0 (t : Fin cfg0.N) (r : Fin 1024) (R : Fin 16384) (hR : R.val = 1024 * t.val + r.val) (f : Fin 100) :
    iblk m c 0 t (ix2 r f) = m (c, main_arg0) (ix2 R f) := by
  blk_ext [iblk, V, idx t]

theorem blk1 (t : Fin cfg0.N) : iblk m c 1 t = V m c main_call0_v13 := by
  funext y
  blk_ext [iblk, idx t]

theorem blk3 (t : Fin cfg0.N) : iblk m c 3 t = V m c main_call0_v15 := by
  funext y
  blk_ext [iblk, idx t]

theorem blk5 (t : Fin cfg0.N) : iblk m c 5 t = V m c main_call0_v25 := by
  funext y
  blk_ext [iblk, idx t]

/-- The result array after the last grid point is the reference's result of the same arguments. -/
theorem final (h : InRange (m (c, main_arg0)) (m (c, main_arg1)) (m (c, main_arg2)) (m (c, main_arg3))) :
    (dats m 0 c).arrAt 6 cfg0.N
      = Cert.ReferenceIdeal.Read.val_main_v156 (F := Ideal) (m (c, main_arg0)) (m (c, main_arg1)) (m (c, main_arg2)) (m (c, main_arg3))
        (m (c, main_arg4)) (m (c, main_arg5)) (m (c, main_arg6)) := by
  refine (dats m 0 c).arrAt_eq_of_covers 6 _ (by decide +kernel) fun t _ y => ?_
  blk_simp
  rw [after0_6, blk1, blk3, blk5, V13, V15, V25]
  have ht : t.val < 16 := t.isLt
  have hr : (y 0).val < 1024 := (y 0).isLt
  have hy : y = (ix2 ⟨(y 0).val, hr⟩ 0 : S1024x1.Idx) := Cert.Ref.idx2 rfl (by
    have h1 : (y 1).val < 1 := (y 1).isLt
    exact Fin.ext (Nat.lt_one_iff.mp h1))
  have he : (win0_6.blk t).view.emb y = (ix2 ⟨1024 * t.val + (y 0).val, by omega⟩ 0 : S16384x1.Idx) := by blk_ext [idx t]
  rw [he]
  have key := block_row _ _ _ _ (m (c, main_arg4)) (m (c, main_arg5)) (m (c, main_arg6)) h.x h.table1 h.bias1 h.table2 (iblk m c 0 t)
    (iblk m c 2 t) (iblk m c 4 t) ⟨(y 0).val, hr⟩ ⟨1024 * t.val + (y 0).val, by omega⟩ fun f => blk0 m c t _ _ rfl f
  rw [← key]
  exact congrArg _ hy

end Cert.Ker

end
-- ==== Proof.Pre.lean ====
/-
  What the precondition says of the arguments, entry by entry.
-/
module

public import proofs.«01_k».proof.Defs
public import proofs.«01_k».proof.Proof.Final

@[expose] public section

set_option maxRecDepth 16384

noncomputable section

namespace Cert.Ker

open Cert.KernelIdeal Cert.KernelIdeal.Gen Idealize.ShloMosaic Idealize.ShloMosaic.TcCoe Idealize.SL.Sem

/-- The shape relations the precondition's operations take. -/
theorem pre_facts : Cert.Pre_in_range.Facts where
  bcast_S_S16384x100 := by decide
  bcast_S_S100x16x64 := by decide
  bcast_S_S64 := by decide
  slices_S64x16x64_S64x9x64_0_7_0 := by decide
  bcast_S_S64x9x64 := by decide

variable [Cert.Pre_in_range.Facts] (a0 : FVec Ideal S16384x100 .f32) (a1 : FVec Ideal S100x16x64 .f32) (a2 : FVec Ideal S64 .f32)
  (a3 : FVec Ideal S64x16x64 .f32) (a4 : FVec Ideal S64 .f32) (a5 : FVec Ideal S64x1 .f32) (a6 : FVec Ideal S1 .f32)

omit [Cert.Pre_in_range.Facts] in
/-- An ordered comparison that holds, as the inequality it tests. -/
theorem of_cmp_lt {a b : EReal} (h : FloatOps.cmpf (F := Ideal) (φ := .f32) .olt a b = 1#1) : a < b := by
  by_contra hn
  rw [Ideal.cmpf_def] at h
  simp [Ideal.cmp, hn] at h

omit [Cert.Pre_in_range.Facts] in
/-- A value whose magnitude compares below the infinity is neither infinity. -/
theorem of_abs_lt {a : EReal}
    (h : FloatOps.cmpf (F := Ideal) (φ := .f32) .olt (FloatOps.absf (F := Ideal) (φ := .f32) a) (Scalar.ofBits (F := Ideal) .f32 0x7F800000#32) = 1#1) :
    a ≠ ⊤ ∧ a ≠ ⊥ := by
  have h' := of_cmp_lt h
  rw [Ideal.absf_def] at h'
  have ht : max a (-a) < ⊤ := lt_of_lt_of_eq h' Cert.Spline.lit_top
  refine ⟨fun e => ?_, fun e => ?_⟩ <;> simp [e] at ht

/-- Arguments that pass the precondition's four comparisons are in range. -/
theorem pre_in_range (p0 : (Cert.Pre_in_range.fn (F := Ideal) a0 a1 a2 a3 a4 a5 a6).1 = fun _ => 1#1)
    (p1 : (Cert.Pre_in_range.fn (F := Ideal) a0 a1 a2 a3 a4 a5 a6).2.1 = fun _ => 1#1)
    (p2 : (Cert.Pre_in_range.fn (F := Ideal) a0 a1 a2 a3 a4 a5 a6).2.2.1 = fun _ => 1#1)
    (p3 : (Cert.Pre_in_range.fn (F := Ideal) a0 a1 a2 a3 a4 a5 a6).2.2.2 = fun _ => 1#1) : InRange a0 a1 a2 a3 where
  x r f := of_abs_lt (by
    have h := congrFun p0 (ix2 r f)
    unfold Cert.Pre_in_range.fn at h
    revert h
    pointwise
    exact id)
  table1 f q o := of_abs_lt (by
    have h := congrFun p1 (ix3 f q o)
    unfold Cert.Pre_in_range.fn at h
    revert h
    pointwise
    exact id)
  bias1 o := ne_of_lt (lt_of_lt_of_eq (of_cmp_lt (by
    have h := congrFun p2 (ix1 o)
    unfold Cert.Pre_in_range.fn at h
    revert h
    pointwise
    exact id)) Cert.Spline.lit_top)
  table2 f q o hq := ne_of_lt (lt_of_lt_of_eq (of_cmp_lt (by
    have h := congrFun p3 (ix3 f ⟨q.val - 7, by omega⟩ o)
    unfold Cert.Pre_in_range.fn at h
    revert h
    pointwise
    have e : (⟨7 + (q.val - 7), by omega⟩ : Fin 16) = q := Fin.ext (by simp only; omega)
    simp only [e]
    exact id)) Cert.Spline.lit_top)

/-- The kernel's result array, where the arguments are in range, is the reference's result of the same arguments. -/
theorem kernel_result (m : (ℓ : Loc nD τ sig) → Buf (Elt Ideal) ℓ) (hpre : Cert.Pre_KernelIdeal_in_range m) (c : Dev nD) :
    (dats m 0 c).arrAt 6 cfg0.N
      = Cert.ReferenceIdeal.Read.val_main_v156 (F := Ideal) (m (c, main_arg0)) (m (c, main_arg1)) (m (c, main_arg2)) (m (c, main_arg3))
        (m (c, main_arg4)) (m (c, main_arg5)) (m (c, main_arg6)) :=
  final m c (pre_in_range _ _ _ _ _ _ _ (hpre c).1 (hpre c).2.1 (hpre c).2.2.1 (hpre c).2.2.2)

end Cert.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Pre
public import Idealize.ShloMosaic.Lib.Claim
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The certificate: every program runs to completion leaving its arguments unchanged and its counters at zero, the
    idealized kernel keeps to the rule it names, and where the arguments are in range it ends with the reference's results. -/
theorem claim : Cert.Claim := ⟨Cert.Kernel.Gen.facts, Cert.KernelIdeal.Gen.facts, Cert.ReferenceIdeal.Gen.facts, Cert.Ker.pre_facts,
  fun m ρ _ => Cert.Kernel.Gen.frame m ρ,
  fun m ρ _ => Cert.KernelIdeal.Gen.frame m ρ,
  fun m ρ _ => Cert.KernelIdeal.Gen.frame m ρ,
  fun m ρ _ => θ_run_mono (Cert.ReferenceIdeal.Value.run m ρ) fun r h => ⟨fun c => (h c).2, sem_eq_zero_of_no_sems rfl r.2⟩,
  fun m ρ _ => θ_run_mono (Cert.ReferenceIdeal.Value.run m ρ) fun r h => ⟨fun c => (h c).2, sem_eq_zero_of_no_sems rfl r.2⟩,
  ⟨IdealRules.bf16_pack.statement _, IdealRules.bf16_pack.statement _⟩,
  by
    intro m g m' g' hpre hagree
    refine ⟨fun c => (Cert.KernelIdeal.Gen.dats m 0 c).arrAt 6 Cert.KernelIdeal.cfg0.N, Cert.KernelIdeal.Value.run_blocks m g,
      θ_run_mono (Cert.ReferenceIdeal.Value.run m' g') fun r h c => ⟨(h c).1.trans ?_, (h c).2⟩⟩
    obtain ⟨e0, e1, e2, e3, e4, e5, e6⟩ := hagree c
    have := Cert.Ker.pre_facts
    refine Eq.trans ?_ (Cert.Ker.kernel_result m hpre c).symm
    refine (Cert.ReferenceIdeal.Read.val_main_v156_eq (F := Ideal) (StableHlo.launchContents m' c)).trans ?_
    show Cert.ReferenceIdeal.Read.val_main_v156 (F := Ideal) (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4))
      (m' ((c.tc : Thread _ _).loc Cert.ReferenceIdeal.main_arg5)) (m' ((c.tc : Thread _ _).loc Cert.ReferenceIdeal.main_arg6)) = _
    rw [e0, e1, e2, e3, e4, e5, e6]⟩

end Cert.Proof

end
